-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x1408 : Shape := ⟨3, ![2, 2048, 1408]⟩
abbrev S2816x1408 : Shape := ⟨2, ![2816, 1408]⟩
abbrev S_ : Shape := ⟨0, ![]⟩

class Facts : Prop where
  bcast_S_S2x2048x1408 : S_.BroadcastsInDim S2x2048x1408 (![] : Fin 0 → Fin S2x2048x1408.rank)
  reducesTo_S2x2048x1408_S_d0_1_2 : S2x2048x1408.ReducesTo [0, 1, 2] S_
  h_S_ : 0 < S_.numel
  bcast_S_S2816x1408 : S_.BroadcastsInDim S2816x1408 (![] : Fin 0 → Fin S2816x1408.rank)
  reducesTo_S2816x1408_S_d0_1 : S2816x1408.ReducesTo [0, 1] S_

variable [Facts]

def fn {F : FTy → Type} [FloatOps F] (main_arg0 : FVec F S2x2048x1408 .bf16) (main_arg1 : FVec F S2816x1408 .bf16) : IVec S_ 1 :=
  let main_v0 : FVec F S2x2048x1408 .bf16 := Host.absf main_arg0
  let main_cst : FVec F S_ .bf16 := constant S_ .bf16 0x7F7F#16
  let main_v1 : FVec F S2x2048x1408 .bf16 := broadcastInDim S2x2048x1408 ![] bcast_S_S2x2048x1408 main_cst
  let main_v2 : IVec S2x2048x1408 1 := cmpf .ole main_v0 main_v1
  let main_c : IVec S_ 1 := constantI S_ 1 1#1
  let main_v3 : IVec S_ 1 := (fun x v => Host.reduce IntOp.andi x v reducesTo_S2x2048x1408_S_d0_1_2 h_S_) main_v2 main_c
  let main_v4 : FVec F S2816x1408 .bf16 := Host.absf main_arg1
  let main_cst_0 : FVec F S_ .bf16 := constant S_ .bf16 0x7F7F#16
  let main_v5 : FVec F S2816x1408 .bf16 := broadcastInDim S2816x1408 ![] bcast_S_S2816x1408 main_cst_0
  let main_v6 : IVec S2816x1408 1 := cmpf .ole main_v4 main_v5
  let main_c_1 : IVec S_ 1 := constantI S_ 1 1#1
  let main_v7 : IVec S_ 1 := (fun x v => Host.reduce IntOp.andi x v reducesTo_S2816x1408_S_d0_1 h_S_) main_v6 main_c_1
  let main_v8 : IVec S_ 1 := andi main_v3 main_v7
  main_v8
-- ==== Kernel.lean ====
abbrev S2x2048x1408 : Shape := ⟨3, ![2, 2048, 1408]⟩
abbrev S2816x1408 : Shape := ⟨2, ![2816, 1408]⟩
abbrev S4096x1408 : Shape := ⟨2, ![4096, 1408]⟩
abbrev S4096x2816 : Shape := ⟨2, ![4096, 2816]⟩
abbrev S4096x11 : Shape := ⟨2, ![4096, 11]⟩
abbrev S2816x11 : Shape := ⟨2, ![2816, 11]⟩
abbrev S512x1408 : Shape := ⟨2, ![512, 1408]⟩
abbrev S512x2816 : Shape := ⟨2, ![512, 2816]⟩
abbrev S512x11 : Shape := ⟨2, ![512, 11]⟩
abbrev S256x128 : Shape := ⟨2, ![256, 128]⟩
abbrev S256 : Shape := ⟨1, ![256]⟩
abbrev S256x1 : Shape := ⟨2, ![256, 1]⟩
abbrev S256x11 : Shape := ⟨2, ![256, 11]⟩
abbrev S512x128 : Shape := ⟨2, ![512, 128]⟩
abbrev S512 : Shape := ⟨1, ![512]⟩
abbrev S512x1 : Shape := ⟨2, ![512, 1]⟩
abbrev S256x1408 : Shape := ⟨2, ![256, 1408]⟩
abbrev S512x256 : Shape := ⟨2, ![512, 256]⟩

abbrev nBuf : Space → Nat
  | .hbm => 8
  | .vmem => 13
  | .smem => 0
  | _ => 0

abbrev bufTy : (tb : Table) → Fin (tcTables nBuf tb) → BufTy
  | .hbm, ⟨0, _⟩ => ⟨S2x2048x1408, .bf16⟩
  | .hbm, ⟨1, _⟩ => ⟨S2816x1408, .bf16⟩
  | .hbm, ⟨2, _⟩ => ⟨S4096x1408, .bf16⟩
  | .hbm, ⟨3, _⟩ => ⟨S4096x2816, .bf16⟩
  | .hbm, ⟨4, _⟩ => ⟨S4096x1408, .fp8e4m3⟩
  | .hbm, ⟨5, _⟩ => ⟨S4096x11, .i8⟩
  | .hbm, ⟨6, _⟩ => ⟨S2816x1408, .fp8e4m3⟩
  | .hbm, ⟨7, _⟩ => ⟨S2816x11, .i8⟩
  | .local _ .vmem, ⟨0, _⟩ => ⟨S512x1408, .bf16⟩
  | .local _ .vmem, ⟨1, _⟩ => ⟨S512x1408, .bf16⟩
  | .local _ .vmem, ⟨2, _⟩ => ⟨S2816x1408, .bf16⟩
  | .local _ .vmem, ⟨3, _⟩ => ⟨S512x2816, .bf16⟩
  | .local _ .vmem, ⟨4, _⟩ => ⟨S512x2816, .bf16⟩
  | .local _ .vmem, ⟨5, _⟩ => ⟨S512x1408, .fp8e4m3⟩
  | .local _ .vmem, ⟨6, _⟩ => ⟨S512x1408, .fp8e4m3⟩
  | .local _ .vmem, ⟨7, _⟩ => ⟨S512x11, .i8⟩
  | .local _ .vmem, ⟨8, _⟩ => ⟨S512x11, .i8⟩
  | .local _ .vmem, ⟨9, _⟩ => ⟨S2816x1408, .fp8e4m3⟩
  | .local _ .vmem, ⟨10, _⟩ => ⟨S2816x11, .i8⟩
  | .local _ .vmem, ⟨11, _⟩ => ⟨S512x1408, .bf16⟩
  | .local _ .vmem, ⟨12, _⟩ => ⟨S2816x1408, .bf16⟩
  | _, _ => ⟨S2x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x11 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1408 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x11 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x2048x1408 : Shape := ⟨3, ![2, 2048, 1408]⟩
abbrev S2816x1408 : Shape := ⟨2, ![2816, 1408]⟩
abbrev S4096x1408 : Shape := ⟨2, ![4096, 1408]⟩
abbrev S4096x2816 : Shape := ⟨2, ![4096, 2816]⟩
abbrev S4096x11 : Shape := ⟨2, ![4096, 11]⟩
abbrev S2816x11 : Shape := ⟨2, ![2816, 11]⟩
abbrev S4096x11x128 : Shape := ⟨3, ![4096, 11, 128]⟩
abbrev S4096x11x1 : Shape := ⟨3, ![4096, 11, 1]⟩
abbrev S2816x11x128 : Shape := ⟨3, ![2816, 11, 128]⟩
abbrev S2816x11x1 : Shape := ⟨3, ![2816, 11, 1]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x1408, .bf16⟩
  | .hbm, ⟨1, _⟩ => ⟨S2816x1408, .bf16⟩
  | .hbm, ⟨2, _⟩ => ⟨S4096x1408, .bf16⟩
  | .hbm, ⟨3, _⟩ => ⟨S4096x2816, .bf16⟩
  | .hbm, ⟨4, _⟩ => ⟨S4096x1408, .fp8e4m3⟩
  | .hbm, ⟨5, _⟩ => ⟨S4096x11, .i8⟩
  | .hbm, ⟨6, _⟩ => ⟨S2816x1408, .fp8e4m3⟩
  | .hbm, ⟨7, _⟩ => ⟨S2816x11, .i8⟩
  | .local _ .vmem, ⟨0, _⟩ => ⟨S4096x1408, .bf16⟩
  | .local _ .vmem, ⟨1, _⟩ => ⟨S2816x1408, .bf16⟩
  | .local _ .vmem, ⟨2, _⟩ => ⟨S4096x2816, .bf16⟩
  | .local _ .vmem, ⟨3, _⟩ => ⟨S4096x1408, .fp8e4m3⟩
  | .local _ .vmem, ⟨4, _⟩ => ⟨S4096x11, .i8⟩
  | .local _ .vmem, ⟨5, _⟩ => ⟨S2816x1408, .fp8e4m3⟩
  | .local _ .vmem, ⟨6, _⟩ => ⟨S2816x11, .i8⟩
  | _, _ => ⟨S2x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x1408 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2816x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1408 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x11 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2816x1408 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2816x11 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Run.Setup.lean ====
/- The launch's vocabulary of the body's run: the branch condition in closed form, where the two weight outputs are idle, and the
   staging memrefs by name. The weight codes and scales are stored at the first point alone, stay in their buffers through the
   idle points after it and are written back at the last. -/
module

public import proofs.«01_k».proof.Proof.Gen.KernelIdeal.Frame
public import proofs.«01_k».proof.Proof.Gen.KernelIdeal.Skeleton
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x80 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → cfg0.idle 5 (grid0.coords t) = false := by decide +kernel
/-- At the later points the printed configuration (`Cfg.idle`) calls output 5 idle: nothing is stored into it there. -/
theorem idleAt0_5_B : ∀ t : Fin cfg0.N, ¬cond0_0 (grid0.coords t) → cfg0.idle 5 (grid0.coords t) = true := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cfg0.fresh 5 t.val = false := by
  intro t; rw [fresh0_5_eq t]; revert t; decide +kernel
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x80 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → cfg0.idle 6 (grid0.coords t) = false := by decide +kernel
/-- At the later points the printed configuration (`Cfg.idle`) calls output 6 idle: nothing is stored into it there. -/
theorem idleAt0_6_B : ∀ t : Fin cfg0.N, ¬cond0_0 (grid0.coords t) → cfg0.idle 6 (grid0.coords t) = true := by decide +kernel
/-- At the points of case B, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_B : ∀ t : Fin cfg0.N, ¬cond0_0 (grid0.coords t) → cfg0.fresh 6 t.val = false := by
  intro t; rw [fresh0_6_eq t]; revert t; decide +kernel

/-! ## The kernel body on any staging memrefs: a subtype the run finds -/

/-- One staging buffer of output window 2, through which its contents are stated (`View.read_writes_of_cover`: the
    choice does not matter). -/
abbrev VO0_2 : View sig .tc .vmem S512x2816 .bf16 := (Memref.whole cc0_stg2_0 : Memref sig .tc .vmem S512x2816 .bf16).view
/-- One staging buffer of output window 3, through which its contents are stated (`View.read_writes_of_cover`: the
    choice does not matter). -/
abbrev VO0_3 : View sig .tc .vmem S512x1408 .fp8e4m3 := (Memref.whole cc0_stg3_0 : Memref sig .tc .vmem S512x1408 .fp8e4m3).view
/-- One staging buffer of output window 4, through which its contents are stated (`View.read_writes_of_cover`: the
    choice does not matter). -/
abbrev VO0_4 : View sig .tc .vmem S512x11 .i8 := (Memref.whole cc0_stg4_0 : Memref sig .tc .vmem S512x11 .i8).view
/-- One staging buffer of output window 5, through which its contents are stated (`View.read_writes_of_cover`: the
    choice does not matter). -/
abbrev VO0_5 : View sig .tc .vmem S2816x1408 .fp8e4m3 := (Memref.whole cc0_stg5_0 : Memref sig .tc .vmem S2816x1408 .fp8e4m3).view
/-- One staging buffer of output window 6, through which its contents are stated (`View.read_writes_of_cover`: the
    choice does not matter). -/
abbrev VO0_6 : View sig .tc .vmem S2816x11 .i8 := (Memref.whole cc0_stg6_0 : Memref sig .tc .vmem S2816x11 .i8).view
/-- Each window's current staging memref at point `t`, spelled as the pipeline passes it (`bodyAt0`), and its wholeness. -/
abbrev ms0_0 (t : Fin cfg0.N) : Memref sig .tc .vmem S512x1408 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2816x1408 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2816 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1408 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x11 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2816x1408 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2816x11 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x1408 .bf16 := Memref.whole cc0_scratch0
abbrev scM0_1 : Memref sig .tc .vmem S2816x1408 .bf16 := Memref.whole cc0_scratch1
/-- The scratch `arg9` the kernel carries between points, as a view: what it holds is stated through it. -/
abbrev VS0_1 : View sig .tc .vmem S2816x1408 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Run

end
-- ==== Proof.Run.RunA.lean ====
/- The body's whole run at the first grid point, where the weight is quantised: the pieces it leaves in each buffer. -/
module

public import proofs.«01_k».proof.Proof.Run.Setup

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8076000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) :
    Σ' (L2 : List (View.Piece (Elt F) S512x2816 .bf16)), Σ' (L3 : List (View.Piece (Elt F) S512x1408 .fp8e4m3)), Σ' (L4 : List (View.Piece (Elt F) S512x11 .i8)), Σ' (L5 : List (View.Piece (Elt F) S2816x1408 .fp8e4m3)), Σ' (L6 : List (View.Piece (Elt F) S2816x11 .i8)), Σ' (LS1 : List (View.Piece (Elt F) S2816x1408 .bf16)), { LT0 : List (View.Piece (Elt F) S512x1408 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LS1)) -∗ K ⟨⟩))
          ⊢ wp frame (wpE (defs₀ (F := F)) Variants.none c none) E (cc0_quant_linear i arg1 harg1 arg2 harg2 arg3 harg3 arg4 harg4 arg5 harg5 arg6 harg6 arg7 harg7 arg8 harg8 arg9 harg9) K } := by
  refine ⟨?_, ?_, ?_, ?_, ?_, ?_, ?_, fun E K => ?run⟩
  case run =>
    simp only [cc0_quant_linear_eq_skeleton]; unfold cc0_quant_linear_skel
    simp only [k0_part241_eq_skeleton, k0_part237_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part238_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part239_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part240_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexists _; iexact HS0
    iexists _; iexact HS1

end Cert.KernelIdeal.Run

end
-- ==== Proof.Run.RunB.lean ====
/- The body's whole run at a later grid point: the weight's codes, scales and widened copy are as the first point left them. -/
module

public import proofs.«01_k».proof.Proof.Run.RunA

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 7: 7 of 8), WITH the
    proof that on whole staging memrefs — the inputs' at their contents, the outputs it reads before covering (5, 6) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) :
    Σ' (L2 : List (View.Piece (Elt F) S512x2816 .bf16)), Σ' (L3 : List (View.Piece (Elt F) S512x1408 .fp8e4m3)), Σ' (L4 : List (View.Piece (Elt F) S512x11 .i8)), Σ' (L5 : List (View.Piece (Elt F) S2816x1408 .fp8e4m3)), Σ' (L6 : List (View.Piece (Elt F) S2816x11 .i8)), Σ' (LS1 : List (View.Piece (Elt F) S2816x1408 .bf16)), { LT0 : List (View.Piece (Elt F) S512x1408 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xo5 ∗ owns (c : Thread nD τ) arg7 fullShare xo6 ∗ (∃ d, owns (c : Thread nD τ) arg8 fullShare d) ∗ owns (c : Thread nD τ) arg9 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xo5 ∗ owns (c : Thread nD τ) arg7 fullShare xo6 ∗ (∃ f, arg8.view.loc (c : Thread nD τ) ↦[arg8.view.set]{fullShare} arg8.view.writes (Elt F) f LT0) ∗ owns (c : Thread nD τ) arg9 fullShare xs1) -∗ K ⟨⟩))
          ⊢ wp frame (wpE (defs₀ (F := F)) Variants.none c none) E (cc0_quant_linear i arg1 harg1 arg2 harg2 arg3 harg3 arg4 harg4 arg5 harg5 arg6 harg6 arg7 harg7 arg8 harg8 arg9 harg9) K } := by
  refine ⟨?_, ?_, ?_, [], [], [], ?_, fun E K => ?run⟩
  case run =>
    simp only [cc0_quant_linear_eq_skeleton]; unfold cc0_quant_linear_skel
    simp only [k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, ⟨%ds0, %fs0, -, HS0⟩, ⟨%fs1, %hfs1, HS1⟩, Hk⟩
    obtain rfl := harg1.eq_unread hf0; obtain rfl := harg2.eq_unread hf1; obtain rfl := harg6.eq_unread hf5; obtain rfl := harg7.eq_unread hf6; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; isplitr; · ipureintro; exact harg9.read_unread _
    iexact HS1

end Cert.KernelIdeal.Run

end
-- ==== Proof.Run.Frame.lean ====
/- What the run leaves in each buffer after each grid point, the pipeline's proof data, the body obligation, and the run of the
   whole program: each result's array by name, the arguments unchanged. -/
module

public import proofs.«01_k».proof.Proof.Run.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 2 tile its block (11 stores of `S512x256`, checked by the kernel's evaluation: Lib/Ring.lean `Piece.tiledL`, linear in the pieces, through a loop's `@[irreducible]` trip theorem too), so they cover it. -/
theorem cover0_A_2 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) (y : S512x2816.Idx) :
    ∃ pc ∈ (kernelRun0_A c i arg1 harg1 arg2 harg2 arg3 harg3 arg4 harg4 arg5 harg5 arg6 harg6 arg7 harg7 arg8 harg8 arg9 harg9 hc0 x0 x1).1, y ∈ pc.1.set :=
  View.cover_of_tiledL (kernelRun0_A c i arg1 harg1 arg2 harg2 arg3 harg3 arg4 harg4 arg5 harg5 arg6 harg6 arg7 harg7 arg8 harg8 arg9 harg9 hc0 x0 x1).1 S512x256.size (by sl_kernel_rfl) y

/-- What case A leaves in output 2's staging buffer: its pieces read back over junk. -/
def out0_A_2 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) : Vec F S512x2816 .bf16 :=
  VO0_2.read (Elt F) (VO0_2.writes (Elt F) VO0_2.junk (kernelRun0_A c i arg1 harg1 arg2 harg2 arg3 harg3 arg4 harg4 arg5 harg5 arg6 harg6 arg7 harg7 arg8 harg8 arg9 harg9 hc0 x0 x1).1)

/-- Case A's pieces for output 3 tile its block (11 stores of `S512x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) (y : S512x1408.Idx) :
    ∃ pc ∈ (kernelRun0_A c i arg1 harg1 arg2 harg2 arg3 harg3 arg4 harg4 arg5 harg5 arg6 harg6 arg7 harg7 arg8 harg8 arg9 harg9 hc0 x0 x1).2.1, y ∈ pc.1.set :=
  View.cover_of_tiledL (kernelRun0_A c i arg1 harg1 arg2 harg2 arg3 harg3 arg4 harg4 arg5 harg5 arg6 harg6 arg7 harg7 arg8 harg8 arg9 harg9 hc0 x0 x1).2.1 S512x128.size (by sl_kernel_rfl) y

/-- What case A leaves in output 3's staging buffer: its pieces read back over junk. -/
def out0_A_3 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) : Vec F S512x1408 .fp8e4m3 :=
  VO0_3.read (Elt F) (VO0_3.writes (Elt F) VO0_3.junk (kernelRun0_A c i arg1 harg1 arg2 harg2 arg3 harg3 arg4 harg4 arg5 harg5 arg6 harg6 arg7 harg7 arg8 harg8 arg9 harg9 hc0 x0 x1).2.1)

/-- Case A's pieces for output 4 tile its block (1 store of `S512x11`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) (y : S512x11.Idx) :
    ∃ pc ∈ (kernelRun0_A c i arg1 harg1 arg2 harg2 arg3 harg3 arg4 harg4 arg5 harg5 arg6 harg6 arg7 harg7 arg8 harg8 arg9 harg9 hc0 x0 x1).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1).2.2.1 S512x11.size (by sl_kernel_rfl) y

/-- What case A leaves in output 4's staging buffer: its pieces read back over junk. -/
def out0_A_4 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) : Vec F S512x11 .i8 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 x0 x1).2.2.1)

/-- Case A's pieces for output 5 tile its block (121 stores of `S256x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) (y : S2816x1408.Idx) :
    ∃ pc ∈ (kernelRun0_A c i arg1 harg1 arg2 harg2 arg3 harg3 arg4 harg4 arg5 harg5 arg6 harg6 arg7 harg7 arg8 harg8 arg9 harg9 hc0 x0 x1).2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1).2.2.2.1 S256x128.size (by sl_kernel_rfl) y

/-- What case A leaves in output 5's staging buffer: its pieces read back over junk. -/
def out0_A_5 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) : Vec F S2816x1408 .fp8e4m3 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1).2.2.2.1)

/-- Case A's pieces for output 6 tile its block (11 stores of `S256x11`, checked by the kernel's evaluation: Lib/Ring.lean `Piece.tiledL`, linear in the pieces, through a loop's `@[irreducible]` trip theorem too), so they cover it. -/
theorem cover0_A_6 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) (y : S2816x11.Idx) :
    ∃ pc ∈ (kernelRun0_A c i arg1 harg1 arg2 harg2 arg3 harg3 arg4 harg4 arg5 harg5 arg6 harg6 arg7 harg7 arg8 harg8 arg9 harg9 hc0 x0 x1).2.2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1).2.2.2.2.1 S256x11.size (by sl_kernel_rfl) y

/-- What case A leaves in output 6's staging buffer: its pieces read back over junk. -/
def out0_A_6 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) : Vec F S2816x11 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1).2.2.2.2.1)

/-- Case A's pieces for scratch `arg9`, which the kernel carries between points, cover it: 121 pieces of `S256x128` tiling it (Lib/Ring.lean `Piece.tiledL`). -/
theorem scover0_A_1 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) (y : S2816x1408.Idx) :
    ∃ pc ∈ (kernelRun0_A c i arg1 harg1 arg2 harg2 arg3 harg3 arg4 harg4 arg5 harg5 arg6 harg6 arg7 harg7 arg8 harg8 arg9 harg9 hc0 x0 x1).2.2.2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1).2.2.2.2.2.1 S256x128.size (by sl_kernel_rfl) y

/-- What case A leaves in scratch `arg9`: its pieces read back over junk. -/
def sout0_A_1 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) : Vec F S2816x1408 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 x0 x1).2.2.2.2.2.1)

/-- Case B's pieces for output 2 tile its block (11 stores of `S512x256`, checked by the kernel's evaluation: Lib/Ring.lean `Piece.tiledL`, linear in the pieces, through a loop's `@[irreducible]` trip theorem too), so they cover it. -/
theorem cover0_B_2 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) (y : S512x2816.Idx) :
    ∃ pc ∈ (kernelRun0_B c i arg1 harg1 arg2 harg2 arg3 harg3 arg4 harg4 arg5 harg5 arg6 harg6 arg7 harg7 arg8 harg8 arg9 harg9 hc0 x0 x1 xo5 xo6 xs1).1, y ∈ pc.1.set :=
  View.cover_of_tiledL (kernelRun0_B c i arg1 harg1 arg2 harg2 arg3 harg3 arg4 harg4 arg5 harg5 arg6 harg6 arg7 harg7 arg8 harg8 arg9 harg9 hc0 x0 x1 xo5 xo6 xs1).1 S512x256.size (by sl_kernel_rfl) y

/-- What case B leaves in output 2's staging buffer: its pieces read back over junk. -/
def out0_B_2 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) : Vec F S512x2816 .bf16 :=
  VO0_2.read (Elt F) (VO0_2.writes (Elt F) VO0_2.junk (kernelRun0_B c i arg1 harg1 arg2 harg2 arg3 harg3 arg4 harg4 arg5 harg5 arg6 harg6 arg7 harg7 arg8 harg8 arg9 harg9 hc0 x0 x1 xo5 xo6 xs1).1)

/-- Case B's pieces for output 3 tile its block (11 stores of `S512x128`, checked by the kernel's evaluation: Lib/Ring.lean `Piece.tiledL`, linear in the pieces, through a loop's `@[irreducible]` trip theorem too), so they cover it. -/
theorem cover0_B_3 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) (y : S512x1408.Idx) :
    ∃ pc ∈ (kernelRun0_B c i arg1 harg1 arg2 harg2 arg3 harg3 arg4 harg4 arg5 harg5 arg6 harg6 arg7 harg7 arg8 harg8 arg9 harg9 hc0 x0 x1 xo5 xo6 xs1).2.1, y ∈ pc.1.set :=
  View.cover_of_tiledL (kernelRun0_B c i arg1 harg1 arg2 harg2 arg3 harg3 arg4 harg4 arg5 harg5 arg6 harg6 arg7 harg7 arg8 harg8 arg9 harg9 hc0 x0 x1 xo5 xo6 xs1).2.1 S512x128.size (by sl_kernel_rfl) y

/-- What case B leaves in output 3's staging buffer: its pieces read back over junk. -/
def out0_B_3 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) : Vec F S512x1408 .fp8e4m3 :=
  VO0_3.read (Elt F) (VO0_3.writes (Elt F) VO0_3.junk (kernelRun0_B c i arg1 harg1 arg2 harg2 arg3 harg3 arg4 harg4 arg5 harg5 arg6 harg6 arg7 harg7 arg8 harg8 arg9 harg9 hc0 x0 x1 xo5 xo6 xs1).2.1)

/-- Case B's pieces for output 4 tile its block (1 store of `S512x11`, checked by the kernel's evaluation: Lib/Ring.lean `Piece.tiledL`, linear in the pieces, through a loop's `@[irreducible]` trip theorem too), so they cover it. -/
theorem cover0_B_4 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) (y : S512x11.Idx) :
    ∃ pc ∈ (kernelRun0_B c i arg1 harg1 arg2 harg2 arg3 harg3 arg4 harg4 arg5 harg5 arg6 harg6 arg7 harg7 arg8 harg8 arg9 harg9 hc0 x0 x1 xo5 xo6 xs1).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 xo5 xo6 xs1).2.2.1 S512x11.size (by sl_kernel_rfl) y

/-- What case B leaves in output 4's staging buffer: its pieces read back over junk. -/
def out0_B_4 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) : Vec F S512x11 .i8 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 x0 x1 xo5 xo6 xs1).2.2.1)

/-- Case B stores nothing into output 5, a live window: its staging buffer holds what the point before left. -/
def out0_B_5 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) : Vec F S2816x1408 .fp8e4m3 := xo5

/-- Case B stores nothing into output 6, a live window: its staging buffer holds what the point before left. -/
def out0_B_6 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) : Vec F S2816x11 .i8 := xo6

/-- Case B stores nothing into scratch `arg9`: it holds what the point before left. -/
def sout0_B_1 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) : Vec F S2816x1408 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x2816 .bf16 × Vec F S512x1408 .fp8e4m3 × Vec F S512x11 .i8 × Vec F S2816x1408 .fp8e4m3 × Vec F S2816x11 .i8 × Vec F S2816x1408 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
    | ⟨6, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]
theorem after0_6 (c : Dev nD) (t : Fin cfg0.N) : (dats m 0 c).after 6 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 8 := lt_of_lt_of_eq t.isLt (show cfg0.N = 8 from N_0)
  rw [after0_5, after0_5]
  by_cases h0 : t.val % 8 = 0
  · rw [liveAt0_5_A t ((hcond0_0 t).mpr h0)] at hi
    exact absurd hi Bool.false_ne_true
  · rw [outsAt0_B m c t h0]; rfl

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 8 := lt_of_lt_of_eq t.isLt (show cfg0.N = 8 from N_0)
  rw [after0_6, after0_6]
  by_cases h0 : t.val % 8 = 0
  · rw [liveAt0_6_A t ((hcond0_0 t).mpr h0)] at hi
    exact absurd hi Bool.false_ne_true
  · rw [outsAt0_B m c t h0]; rfl
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).2.2.2.1 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]

/-- At a later point what output 5's buffer is left at, as the point before left it, is what the run states for this point: where the
    block is not written back by `before0_5_B`, at the last point by `after0_5`. -/
theorem leaves0_5_B (c : Dev nD) (t : Fin cfg0.N) (h0 : ¬t.val % 8 = 0) :
    owns (c : Thread nD τ) (ms0_5 t) fullShare ((outsAt0 m c (t.val - 1) (Nat.lt_of_le_of_lt (Nat.sub_le _ _) t.isLt)).2.2.2.1)
      ⊢ (dats m 0 c).leavesExact 5 t := by
  unfold Dat.leavesExact
  rw [idleAt0_5_B t (fun h => h0 ((hcond0_0 t).mp h))]
  cases hf : (cfg0.win 5).flush t
  · simp only [before0_5_B m c t h0]
    iintro H; iexists (fun _ => default); iexact H
  · simp only [after0_5, outsAt0_B m c t h0, out0_B_5]
    exact Idealize.SL.BI.Entails.refl _
/-- At a point of case B output 6's current staging buffer holds what the point before left: the buffer is not fresh
    there (`notFresh0_6_B`: stored into since the region's entry or the last write-back, carried through the points that
    leave it idle by `hcarry0_6`; Lib/Pipeline/TableIdle.lean `Dat.before_out_traj`). -/
theorem before0_6_B (c : Dev nD) (t : Fin cfg0.N) (h0 : ¬t.val % 8 = 0) (d) :
    (dats m 0 c).before 6 t d = (outsAt0 m c (t.val - 1) (Nat.lt_of_le_of_lt (Nat.sub_le _ _) t.isLt)).2.2.2.2.1 := by
  rw [Dat.before_out_traj _ 6 rfl (fun _ _ => rfl) (hcarry0_6 m c) t.val t rfl d,
    if_neg (by rw [notFresh0_6_B t (fun h => h0 ((hcond0_0 t).mp h))]; exact Bool.false_ne_true)]
  dsimp only [dats]

/-- At a later point what output 6's buffer is left at, as the point before left it, is what the run states for this point: where the
    block is not written back by `before0_6_B`, at the last point by `after0_6`. -/
theorem leaves0_6_B (c : Dev nD) (t : Fin cfg0.N) (h0 : ¬t.val % 8 = 0) :
    owns (c : Thread nD τ) (ms0_6 t) fullShare ((outsAt0 m c (t.val - 1) (Nat.lt_of_le_of_lt (Nat.sub_le _ _) t.isLt)).2.2.2.2.1)
      ⊢ (dats m 0 c).leavesExact 6 t := by
  unfold Dat.leavesExact
  rw [idleAt0_6_B t (fun h => h0 ((hcond0_0 t).mp h))]
  cases hf : (cfg0.win 6).flush t
  · simp only [before0_6_B m c t h0]
    iintro H; iexists (fun _ => default); iexact H
  · simp only [after0_6, outsAt0_B m c t h0, out0_B_6]
    exact Idealize.SL.BI.Entails.refl _

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [show (dats m 0 c).leavesExact 6 t = owns (c : Thread nD τ) (ms0_6 t) fullShare ((dats m 0 c).after 6 t) from by
      unfold Dat.leavesExact; rw [liveAt0_6_A t ((hcond0_0 t).mpr h0)], after0_6]
    by_cases hz : t.val = 0
    · rw [PhiS_castSucc m c t, PhiS_zero m c _ _ hz, PhiA0_eq]
      rw [outsAt0_A m c t h0]
      unfold out0_A_2 out0_A_3 out0_A_4 out0_A_5 out0_A_6 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (iblk m c 0 t) (iblk m c 1 t)).2.2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      iintro ⟨H0, H1, ⟨%e2, H2⟩, ⟨%e3, H3⟩, ⟨%e4, H4⟩, ⟨%e5, H5⟩, ⟨%e6, H6⟩, ⟨%fT0, HS0⟩, ⟨%es1, HS1⟩⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact View.read_writes_of_cover _ _ _ _ _ (scover0_A_1 c _ _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _)
    · exfalso; have hN : t.val < 8 := lt_of_lt_of_eq t.isLt (show cfg0.N = 8 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    by_cases hz : t.val = 0
    · exfalso; have hN : t.val < 8 := lt_of_lt_of_eq t.isLt (show cfg0.N = 8 from N_0); omega
    · rw [PhiS_castSucc m c t, PhiS_pos m c _ _ hz]
      rw [outsAt0_B m c t h0]
      simp only [before0_5_B m c t h0, before0_6_B m c t h0]
      unfold out0_B_2 out0_B_3 out0_B_4 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (iblk m c 0 t) (iblk m c 1 t) _ _ _).2.2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexact H5
      isplitl [H6]; · iexact H6
      isplitl [HS0]; · iexact HS0
      isplitl [HS1]; · iexact HS1
      iintro ⟨H0, H1, ⟨%e2, H2⟩, ⟨%e3, H3⟩, ⟨%e4, H4⟩, H5, H6, ⟨%fT0, HS0⟩, HS1⟩
      isplitl [HS0 HS1 Hg]
      · isplitl [HS0 HS1]
        · isplitl [HS0]
          · iexists _; unfold owns; iexists _; isplitr
            swap; · iexact HS0
            ipureintro; rfl
          iexact HS1
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _)
      isplitl [H5]
      · iapply (leaves0_5_B m c t h0); iexact H5
      iapply (leaves0_6_B m c t h0); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Run

end
-- ==== Proof.Quant.lean ====
/- One group of 128 columns of one block of `R` rows, quantised as the kernel's body quantises it, written once for every block
   and group: the group maximum, its word found by counting, the shifted exponent word, the codes, the values they stand for, and
   the exponents of a block's eleven groups gathered into its scale bytes. -/
module

public import Idealize.ShloMosaic.Lib.Pointwise

@[expose] public section

set_option maxRecDepth 16384

noncomputable section

namespace Cert.KernelIdeal.Quant

open Idealize.ShloMosaic

variable {F : FTy → Type} [FloatOps F]

/-- `R` rows of one group. -/
abbrev G (R : ℕ) : Shape := ⟨2, ![R, 128]⟩
/-- One number for each row, as a column. -/
abbrev C (R : ℕ) : Shape := ⟨2, ![R, 1]⟩
/-- One number for each row. -/
abbrev V (R : ℕ) : Shape := ⟨1, ![R]⟩
/-- One number for each row and group. -/
abbrev S (R : ℕ) : Shape := ⟨2, ![R, 11]⟩

/-- The shape conditions of the operations, at `R` rows. -/
structure Ok (R : ℕ) : Prop where
  red : (G R).Reduces [1] (V R)
  col : (V R).ShapeCasts (C R)
  same : (C R).ShapeCasts (C R)
  sameG : (G R).ShapeCasts (G R)
  bc : (C R).Broadcasts (G R)
  iota : (G R).Iotas .tc 32 [1]
  iota16 : (G R).Iotas .tc 16 [1]
  sl : (G R).Slices ![0, 0] (S R)

variable {R : ℕ} (h : Ok R)

/-- The greatest absolute value of each row. -/
def amax (v : FVec F (G R) .bf16) : FVec F (C R) .bf16 :=
  shapeCast (C R) (multiReduction .maximumf [1] (V R) (absf v) 0xFF80#16 h.red (.inr rfl) rfl) h.col

/-- How many of the 128 words of each row denote a value at most the row's `a`. -/
def count (words : IVec (G R) 32) (a : FVec F (C R) .bf16) : IVec (C R) 32 :=
  shapeCast (C R) (multiReductionI .add [1] (V R)
    (extui 32 (cmpf .ole (bitcastToFloat .bf16 (trunci 16 words (by decide))) (broadcastTo (G R) a h.bc)) (by decide)) 0#32 h.red rfl) h.col

/-- The lane number of each element. -/
def lane : IVec (G R) 32 := iota .tc (G R) 32 [1] h.iota

/-- The exponent field of the row maximum's word. -/
def binade (v : FVec F (G R) .bf16) : IVec (C R) 32 :=
  maxsi (subi (addi (count h (shli (lane h) (broadcast (G R) 7#32)) (amax h v))
    (count h (shli (addi (lane h) (broadcast (G R) 128#32)) (broadcast (G R) 7#32)) (amax h v))) (broadcast (C R) 1#32)) (broadcast (C R) 0#32)

/-- The fraction field of the row maximum's word. -/
def fraction (v : FVec F (G R) .bf16) : IVec (C R) 32 :=
  maxsi (subi (count h (addi (broadcastTo (G R) (shli (binade h v) (broadcast (C R) 7#32)) h.bc) (lane h)) (amax h v))
    (broadcast (C R) 1#32)) (broadcast (C R) 0#32)

/-- The word of the row maximum. -/
def word (v : FVec F (G R) .bf16) : IVec (C R) 16 :=
  trunci 16 (addi (shli (binade h v) (broadcast (C R) 7#32)) (fraction h v)) (by decide)

/-- The word whose exponent field is the group's exponent plus 135. -/
def pword (v : FVec F (G R) .bf16) : IVec (C R) 16 :=
  select (andi (cmpi .sge (andi (addi (word h v) (broadcast (C R) 32#16)) (broadcast (C R) 32640#16)) (broadcast (C R) 1280#16))
      (cmpi .slt (word h v) (broadcast (C R) 32640#16)))
    (andi (addi (word h v) (broadcast (C R) 32#16)) (broadcast (C R) 32640#16)) (broadcast (C R) 17280#16)

/-- The group's codes. -/
def codes (v : FVec F (G R) .bf16) : FVec F (G R) .fp8e4m3 :=
  truncf .fp8e4m3 (minimumf (broadcast (G R) (Scalar.ofBits .bf16 0x43E0#16)) (maximumf (broadcast (G R) (Scalar.ofBits .bf16 0xC3E0#16))
    (mulf v (broadcastTo (G R) (bitcastToFloat .bf16 (subi (broadcast (C R) 33536#16) (pword h v))) h.bc)))) (by decide)

/-- The values the group's codes stand for. -/
def deq (v : FVec F (G R) .bf16) : FVec F (G R) .bf16 :=
  shapeCast (G R) (mulf (extf .bf16 (codes h v) (by decide))
    (broadcastTo (G R) (bitcastToFloat .bf16 (subi (pword h v) (broadcast (C R) 1024#16))) h.bc)) h.sameG

/-- The gathered exponent words with group `g`'s put into lane `g`. -/
def put (g : BitVec 16) (v : FVec F (G R) .bf16) (acc : IVec (G R) 16) : IVec (G R) 16 :=
  select (cmpi .eq (iota .tc (G R) 16 [1] h.iota16) (broadcast (G R) g)) (broadcastTo (G R) (shapeCast (C R) (pword h v) h.same) h.bc) acc

/-- The exponent words of the eleven groups, group `g`'s in lane `g`. -/
def gather (v : Fin 11 → FVec F (G R) .bf16) : IVec (G R) 16 :=
  put h 10#16 (v 10) <| put h 9#16 (v 9) <| put h 8#16 (v 8) <| put h 7#16 (v 7) <| put h 6#16 (v 6) <| put h 5#16 (v 5) <|
    put h 4#16 (v 4) <| put h 3#16 (v 3) <| put h 2#16 (v 2) <| put h 1#16 (v 1) <| put h 0#16 (v 0) <| broadcast (G R) 0#16

/-- The scale bytes of the eleven groups. -/
def scales (v : Fin 11 → FVec F (G R) .bf16) : IVec (S R) 8 :=
  trunci 8 (extractStridedSlice (S R) ![0, 0] (subi (shrsi (extsi 32 (gather h v) (by decide)) (broadcast (G R) 7#32)) (broadcast (G R) 8#32)) h.sl)
    (by decide)

end Cert.KernelIdeal.Quant

end
-- ==== Proof.Pieces.lean ====
/- The pieces that the body's stores leave in each buffer, as one formula over the blocks and groups: the run's own lists, each payload
   the quantisation of the group it was computed from (`Quant`). -/
module

public import proofs.«01_k».proof.Proof.Run.Frame
public import proofs.«01_k».proof.Proof.Quant

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

theorem ok256 : Quant.Ok 256 := by constructor <;> decide
theorem ok512 : Quant.Ok 512 := by constructor <;> decide

/-- The numbers below eleven, greatest first: the order in which a run lists its stores. -/
def down : List (Fin 11) := [10, 9, 8, 7, 6, 5, 4, 3, 2, 1, 0]

theorem mem_down (j : Fin 11) : j ∈ down := by revert j; decide

theorem inbW (j g : Fin 11) (a) : (![256 * j.val, 128 * g.val] : Fin 2 → ℕ) a + S256x128.size a ≤ S2816x1408.size a := by
  have := j.isLt; have := g.isLt
  fin_cases a
  · show 256 * j.val + 256 ≤ 2816; omega
  · show 128 * g.val + 128 ≤ 1408; omega

theorem inbX (g : Fin 11) (a) : (![0, 128 * g.val] : Fin 2 → ℕ) a + S512x128.size a ≤ S512x1408.size a := by
  have := g.isLt
  fin_cases a
  · show 0 + 512 ≤ 512; omega
  · show 128 * g.val + 128 ≤ 1408; omega

theorem inbS (j : Fin 11) (a) : (![256 * j.val, 0] : Fin 2 → ℕ) a + S256x11.size a ≤ S2816x11.size a := by
  have := j.isLt
  fin_cases a
  · show 256 * j.val + 256 ≤ 2816; omega
  · show 0 + 11 ≤ 11; omega

theorem inbR (j : Fin 11) (a) : (![256 * j.val, 0] : Fin 2 → ℕ) a + S256x1408.size a ≤ S2816x1408.size a := by
  have := j.isLt
  fin_cases a
  · show 256 * j.val + 256 ≤ 2816; omega
  · show 0 + 1408 ≤ 1408; omega

theorem inbY (j : Fin 11) (a) : (![0, 256 * j.val] : Fin 2 → ℕ) a + S512x256.size a ≤ S512x2816.size a := by
  have := j.isLt
  fin_cases a
  · show 0 + 512 ≤ 512; omega
  · show 256 * j.val + 256 ≤ 2816; omega

/-- Block `j`, group `g` of the weights. -/
def wgrp (arg2 : Memref sig .tc .vmem S2816x1408 .bf16) (harg2 : arg2.IsWhole) (x1 : Vec F S2816x1408 .bf16) (j g : Fin 11) : FVec F S256x128 .bf16 :=
  View.readAt (Elt F) arg2.view (Rect.unit (s := S2816x1408) ![256 * j.val, 128 * g.val] S256x128.size (inbW j g)).toLoadRect (harg2.unread x1)

/-- Group `g` of a block of activations. -/
def xgrp (arg1 : Memref sig .tc .vmem S512x1408 .bf16) (harg1 : arg1.IsWhole) (x0 : Vec F S512x1408 .bf16) (g : Fin 11) : FVec F S512x128 .bf16 :=
  shapeCast S512x128 (View.readAt (Elt F) arg1.view (Rect.unit (s := S512x1408) ![0, 128 * g.val] S512x128.size (inbX g)).toLoadRect (harg1.unread x0))
    ok512.sameG

/-- The pieces of the weights' codes. -/
def wcPieces (arg2 : Memref sig .tc .vmem S2816x1408 .bf16) (harg2 : arg2.IsWhole) (x1 : Vec F S2816x1408 .bf16) : List (View.Piece (Elt F) S2816x1408 .fp8e4m3) :=
  down.flatMap fun j => down.map fun g => ⟨Rect.unit (s := S2816x1408) ![256 * j.val, 128 * g.val] S256x128.size (inbW j g), Quant.codes ok256 (wgrp arg2 harg2 x1 j g)⟩

/-- The pieces of the weights' scratch: the values the codes stand for. -/
def wbPieces (arg2 : Memref sig .tc .vmem S2816x1408 .bf16) (harg2 : arg2.IsWhole) (x1 : Vec F S2816x1408 .bf16) : List (View.Piece (Elt F) S2816x1408 .bf16) :=
  down.flatMap fun j => down.map fun g => ⟨Rect.unit (s := S2816x1408) ![256 * j.val, 128 * g.val] S256x128.size (inbW j g), Quant.deq ok256 (wgrp arg2 harg2 x1 j g)⟩

/-- The pieces of the weights' scale bytes. -/
def wsPieces (arg2 : Memref sig .tc .vmem S2816x1408 .bf16) (harg2 : arg2.IsWhole) (x1 : Vec F S2816x1408 .bf16) : List (View.Piece (Elt F) S2816x11 .i8) :=
  down.map fun j => ⟨Rect.unit (s := S2816x11) ![256 * j.val, 0] S256x11.size (inbS j), Quant.scales ok256 (wgrp arg2 harg2 x1 j)⟩

/-- The pieces of the activations' codes. -/
def xcPieces (arg1 : Memref sig .tc .vmem S512x1408 .bf16) (harg1 : arg1.IsWhole) (x0 : Vec F S512x1408 .bf16) : List (View.Piece (Elt F) S512x1408 .fp8e4m3) :=
  down.map fun g => ⟨Rect.unit (s := S512x1408) ![0, 128 * g.val] S512x128.size (inbX g), Quant.codes ok512 (xgrp arg1 harg1 x0 g)⟩

/-- The pieces of the activations' scratch: the values the codes stand for. -/
def xbPieces (arg1 : Memref sig .tc .vmem S512x1408 .bf16) (harg1 : arg1.IsWhole) (x0 : Vec F S512x1408 .bf16) : List (View.Piece (Elt F) S512x1408 .bf16) :=
  down.map fun g => ⟨Rect.unit (s := S512x1408) ![0, 128 * g.val] S512x128.size (inbX g), Quant.deq ok512 (xgrp arg1 harg1 x0 g)⟩

/-- The one piece of the activations' scale bytes. -/
def xsPieces (arg1 : Memref sig .tc .vmem S512x1408 .bf16) (harg1 : arg1.IsWhole) (x0 : Vec F S512x1408 .bf16) : List (View.Piece (Elt F) S512x11 .i8) :=
  [⟨Rect.unit (s := S512x11) ![0, 0] S512x11.size inb_S512x11_S512x11_0_0, Quant.scales ok512 (xgrp arg1 harg1 x0)⟩]

/-- One block of columns of the product, from the activations' rows and a block of the weights' rows. -/
def prod (a : FVec F S512x1408 .bf16) (b : FVec F S256x1408 .bf16) : FVec F S512x256 .bf16 :=
  truncf .bf16 (matmul dot_S512x1408_S256x1408_S512x256_1_1_0_0_n_n none a b (constant S512x256 .f32 0x00000000#32)) bitsLt_bf16_f32

/-- The pieces of the product, from the scratch's rows. -/
def yPieces (a : FVec F S512x1408 .bf16) (b : Fin 11 → FVec F S256x1408 .bf16) : List (View.Piece (Elt F) S512x2816 .bf16) :=
  down.map fun j => ⟨Rect.unit (s := S512x2816) ![0, 256 * j.val] S512x256.size (inbY j), prod a (b j)⟩

/-- The activations' codes, at a later point. -/
theorem xc_B (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16)  :
    (kernelRun0_B c i arg1 harg1 arg2 harg2 arg3 harg3 arg4 harg4 arg5 harg5 arg6 harg6 arg7 harg7 arg8 harg8 arg9 harg9 hc0 x0 x1 xo5 xo6 xs1).2.1 = xcPieces arg1 harg1 x0 := by
  sl_kernel_rfl

/-- The activations' scale bytes, at a later point. -/
theorem xs_B (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16)  :
    (kernelRun0_B c i arg1 harg1 arg2 harg2 arg3 harg3 arg4 harg4 arg5 harg5 arg6 harg6 arg7 harg7 arg8 harg8 arg9 harg9 hc0 x0 x1 xo5 xo6 xs1).2.2.1 = xsPieces arg1 harg1 x0 := by
  sl_kernel_rfl

/-- The product, at a later point: the weights' scratch as the point before left it. -/
theorem y_B (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16)  :
    (kernelRun0_B c i arg1 harg1 arg2 harg2 arg3 harg3 arg4 harg4 arg5 harg5 arg6 harg6 arg7 harg7 arg8 harg8 arg9 harg9 hc0 x0 x1 xo5 xo6 xs1).1 = yPieces (arg8.view.readCov (xbPieces arg1 harg1 x0) (Rect.unit (s := S512x1408) ![0, 0] S512x1408.size inb_S512x1408_S512x1408_0_0).toLoadRect)
      (fun j => View.readAt (Elt F) arg9.view (Rect.unit (s := S2816x1408) ![256 * j.val, 0] S256x1408.size (inbR j)).toLoadRect (harg9.unread xs1)) := by
  sl_kernel_rfl

/-- The activations' codes, at the first point. -/
theorem xc_A (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16)  :
    (kernelRun0_A c i arg1 harg1 arg2 harg2 arg3 harg3 arg4 harg4 arg5 harg5 arg6 harg6 arg7 harg7 arg8 harg8 arg9 harg9 hc0 x0 x1).2.1 = xcPieces arg1 harg1 x0 := by
  sl_kernel_rfl

/-- The activations' scale bytes, at the first point. -/
theorem xs_A (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16)  :
    (kernelRun0_A c i arg1 harg1 arg2 harg2 arg3 harg3 arg4 harg4 arg5 harg5 arg6 harg6 arg7 harg7 arg8 harg8 arg9 harg9 hc0 x0 x1).2.2.1 = xsPieces arg1 harg1 x0 := by
  sl_kernel_rfl

/-- The weights' codes. -/
theorem wc_A (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16)  :
    (kernelRun0_A c i arg1 harg1 arg2 harg2 arg3 harg3 arg4 harg4 arg5 harg5 arg6 harg6 arg7 harg7 arg8 harg8 arg9 harg9 hc0 x0 x1).2.2.2.1 = wcPieces arg2 harg2 x1 := by
  sl_kernel_rfl

/-- The weights' scale bytes. -/
theorem ws_A (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16)  :
    (kernelRun0_A c i arg1 harg1 arg2 harg2 arg3 harg3 arg4 harg4 arg5 harg5 arg6 harg6 arg7 harg7 arg8 harg8 arg9 harg9 hc0 x0 x1).2.2.2.2.1 = wsPieces arg2 harg2 x1 := by
  sl_kernel_rfl

/-- The weights' scratch. -/
theorem wb_A (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16)  :
    (kernelRun0_A c i arg1 harg1 arg2 harg2 arg3 harg3 arg4 harg4 arg5 harg5 arg6 harg6 arg7 harg7 arg8 harg8 arg9 harg9 hc0 x0 x1).2.2.2.2.2.1 = wbPieces arg2 harg2 x1 := by
  sl_kernel_rfl

/-- The product, at the first point: the weights' scratch as this point fills it. -/
theorem y_A (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16)  :
    (kernelRun0_A c i arg1 harg1 arg2 harg2 arg3 harg3 arg4 harg4 arg5 harg5 arg6 harg6 arg7 harg7 arg8 harg8 arg9 harg9 hc0 x0 x1).1 = yPieces (arg8.view.readCov (xbPieces arg1 harg1 x0) (Rect.unit (s := S512x1408) ![0, 0] S512x1408.size inb_S512x1408_S512x1408_0_0).toLoadRect)
      (fun j => arg9.view.readCov (wbPieces arg2 harg2 x1) (Rect.unit (s := S2816x1408) ![256 * j.val, 0] S256x1408.size (inbR j)).toLoadRect) := by
  sl_kernel_rfl

end Cert.KernelIdeal.Run

end
-- ==== Proof.Scal.lean ====
/- One group of 128 numbers quantised, by scalar functions: what the kernel's body computes of a group, and what the reference
   computes of it. -/
module

public import Idealize.ShloMosaic.Lib.Pointwise

@[expose] public section

noncomputable section

namespace Cert.Scal

open Idealize.ShloMosaic

/-- The greatest absolute value of a group. -/
def amax (u : Fin 128 → EReal) : EReal := Finset.univ.fold max ⊥ (fun k => max (u k) (-(u k)))

/-- How many of 128 words denote a value at most `a`. -/
def count (w : Fin 128 → BitVec 32) (a : EReal) : BitVec 32 :=
  Finset.univ.fold IntOp.addi 0#32 (fun l => BitVec.setWidth 32 (BitVec.ofBool (decide (Ideal.ofBits .bf16 (BitVec.setWidth 16 (w l)) ≤ a))))

/-- The exponent field, counted. -/
def binade (a : EReal) : BitVec 32 :=
  IntOp.maxsi (IntOp.subi (IntOp.addi (count (fun l => IntOp.shli .vector (BitVec.ofNat 32 l) 7#32) a)
    (count (fun l => IntOp.shli .vector (IntOp.addi (BitVec.ofNat 32 l) 128#32) 7#32) a)) 1#32) 0#32

/-- The fraction field, counted within binade `b`. -/
def fraction (b : BitVec 32) (a : EReal) : BitVec 32 :=
  IntOp.maxsi (IntOp.subi (count (fun l => IntOp.addi (IntOp.shli .vector b 7#32) (BitVec.ofNat 32 l)) a) 1#32) 0#32

/-- The word of two fields. -/
def word (b f : BitVec 32) : BitVec 16 := BitVec.setWidth 16 (IntOp.addi (IntOp.shli .vector b 7#32) f)

/-- The exponent word of a word. -/
def pick (w : BitVec 16) : BitVec 16 :=
  Scalar.select (IntOp.andi (IntOp.cmpi .sge (IntOp.andi (IntOp.addi w 32#16) 32640#16) 1280#16) (IntOp.cmpi .slt w 32640#16))
    (IntOp.andi (IntOp.addi w 32#16) 32640#16) 17280#16

/-- The exponent word of a group maximum. -/
def pword (a : EReal) : BitVec 16 := pick (word (binade a) (fraction (binade a) a))

/-- A code: an element over the scale, clipped. -/
def code (v : EReal) (p : BitVec 16) : EReal :=
  min (Ideal.ofBits .bf16 17376#16) (max (Ideal.ofBits .bf16 50144#16) (v * Ideal.ofBits .bf16 (IntOp.subi 33536#16 p)))

/-- The value a code stands for. -/
def deq (v : EReal) (p : BitVec 16) : EReal := code v p * Ideal.ofBits .bf16 (IntOp.subi p 1024#16)

/-- The scale byte. -/
def byte (p : BitVec 16) : BitVec 8 := BitVec.setWidth 8 (IntOp.subi (IntOp.shrsi .vector (BitVec.signExtend 32 p) 7#32) 8#32)

/-- The reference's exponent of a group maximum: one more than the floor of the base-2 logarithm of its quotient by 448, zero
    when the quotient is below the least normal number. -/
def rexp (a : EReal) : EReal :=
  if Ideal.div a (Ideal.ofBits .f32 1138753536#32) < Ideal.ofBits .f32 8388608#32 then 0
  else Ideal.liftRound Int.floor (Ideal.div (Ideal.log (Ideal.div a (Ideal.ofBits .f32 1138753536#32))) (Ideal.log (Ideal.ofBits .f32 1073741824#32))) + 1

/-- The reference's code. -/
def rcode (v e : EReal) : EReal :=
  min (Ideal.ofBits .f32 1138753536#32) (max (Ideal.ofBits .f32 3286237184#32) (v * Ideal.exp2 (0 - e)))

/-- The reference's scale byte. -/
def rbyte (e : EReal) : BitVec 8 := BitVec.setWidth 8 (IntOp.addi (FloatOps.fptosi (F := Ideal) (φ := .f32) 32 e) 127#32)

/-- The power of two a scale byte stands for. -/
def rpow (b : BitVec 8) : EReal := Ideal.exp2 (FloatOps.sitofp (F := Ideal) .f32 (IntOp.subi (BitVec.setWidth 32 b) 127#32))

/-- The value a code of the reference stands for. -/
def rdeq (v e : EReal) : EReal := rcode v e * rpow (rbyte e)

/-- The group of a column. -/
def gof (c : Fin 1408) : Fin 11 := ⟨c.val / 128, by omega⟩

/-- Group `g` of a row. -/
def grp {n : ℕ} (v : (⟨2, ![n, 1408]⟩ : Shape).Idx → EReal) (r : Fin n) (g : Fin 11) : Fin 128 → EReal :=
  fun l => v (ix2 r ⟨g.val * 128 + l.val, by omega⟩)

end Cert.Scal

end
-- ==== Proof.Read.lean ====
/- The kernel's quantisation of a block's group, read at an index: each element is a scalar function (`Scal`) of its row of the group. -/
module

public import proofs.«01_k».proof.Proof.Quant
public import proofs.«01_k».proof.Proof.Scal
public import Idealize.ShloMosaic.Lib.Pointwise.IndexVar

@[expose] public section

set_option maxRecDepth 16384

noncomputable section

namespace Cert.KernelIdeal.Quant

open Idealize.ShloMosaic

variable {R : ℕ} (h : Ok R) (hR : R ≠ 1)

/-- A column of one number per row, read from the vector of them. -/
theorem col_apply {α : Type} (x : (V R).Idx → α) (r : Fin R) : shapeCast (C R) x h.col (ix2 r 0) = x (ix1 r) :=
  shapeCast_apply x h.col _ _ (by
    rw [Shape.rowMajor_val_one, Shape.rowMajor_val_two]
    show r.val = r.val * 1 + 0
    omega)

theorem ofBits_bot : Ideal.ofBits .bf16 0xFF80#16 = ⊥ := by simp [Ideal.ofBits, Ideal.ieee]

theorem amax_apply (v : FVec Ideal (G R) .bf16) (r : Fin R) : amax h v (ix2 r 0) = Scal.amax (fun k => v (ix2 r k)) := by
  unfold amax
  rw [col_apply h]
  pointwise
  rw [show (65408#16) = 0xFF80#16 from rfl, ofBits_bot]
  rfl

include hR in
theorem count_apply (w : IVec (G R) 32) (a : FVec Ideal (C R) .bf16) (r : Fin R) :
    count h w a (ix2 r 0) = Scal.count (fun l => w (ix2 r l)) (a (ix2 r 0)) := by
  unfold count
  rw [col_apply h]
  pointwise
  erw [dif_neg hR]
  rfl

include hR in
theorem binade_apply (v : FVec Ideal (G R) .bf16) (r : Fin R) :
    binade h v (ix2 r 0) = Scal.binade (Scal.amax (fun k => v (ix2 r k))) := by
  pointwise [binade]
  rw [count_apply h hR, count_apply h hR, amax_apply]
  pointwise [lane]
  rfl

include hR in
theorem fraction_apply (v : FVec Ideal (G R) .bf16) (r : Fin R) :
    fraction h v (ix2 r 0) = Scal.fraction (Scal.binade (Scal.amax (fun k => v (ix2 r k)))) (Scal.amax (fun k => v (ix2 r k))) := by
  pointwise [fraction]
  rw [count_apply h hR, amax_apply]
  pointwise [lane]
  erw [dif_neg hR]
  rw [binade_apply h hR]
  rfl

include hR in
theorem pword_apply (v : FVec Ideal (G R) .bf16) (r : Fin R) :
    pword h v (ix2 r 0) = Scal.pword (Scal.amax (fun k => v (ix2 r k))) := by
  pointwise [pword, word]
  rw [binade_apply h hR, fraction_apply h hR]
  rfl

include hR in
theorem codes_apply (v : FVec Ideal (G R) .bf16) (r : Fin R) (l : Fin 128) :
    codes h v (ix2 r l) = Scal.code (v (ix2 r l)) (Scal.pword (Scal.amax (fun k => v (ix2 r k)))) := by
  pointwise [codes]
  erw [dif_neg hR]
  rw [pword_apply h hR]
  rfl

include hR in
theorem deq_apply (v : FVec Ideal (G R) .bf16) (r : Fin R) (l : Fin 128) :
    deq h v (ix2 r l) = Scal.deq (v (ix2 r l)) (Scal.pword (Scal.amax (fun k => v (ix2 r k)))) := by
  pointwise [deq]
  erw [dif_neg hR]
  rw [pword_apply h hR, codes_apply h hR]
  rfl

include hR in
theorem put_apply (g : BitVec 16) (v : FVec Ideal (G R) .bf16) (acc : IVec (G R) 16) (r : Fin R) (l : Fin 128) :
    put h g v acc (ix2 r l)
      = Scalar.select (IntOp.cmpi .eq (BitVec.ofNat 16 l) g) (Scal.pword (Scal.amax (fun k => v (ix2 r k)))) (acc (ix2 r l)) := by
  pointwise [put]
  erw [dif_neg hR]
  rw [pword_apply h hR]

include hR in
theorem gather_apply (v : Fin 11 → FVec Ideal (G R) .bf16) (r : Fin R) (g : Fin 11) :
    gather h v (ix2 r ⟨g.val, by omega⟩) = Scal.pword (Scal.amax (fun k => v g (ix2 r k))) := by
  unfold gather
  simp only [put_apply h hR]
  fin_cases g <;> rfl

include hR in
theorem scales_apply (v : Fin 11 → FVec Ideal (G R) .bf16) (r : Fin R) (g : Fin 11) :
    scales h v (ix2 r g) = Scal.byte (Scal.pword (Scal.amax (fun k => v g (ix2 r k)))) := by
  pointwise [scales]
  rw [gather_apply h hR]
  rfl

end Cert.KernelIdeal.Quant

end
-- ==== Proof.PieceRead.lean ====
/- What the body's pieces leave in each buffer, element by element: each a scalar function (`Scal`) of its row's group. -/
module

public import proofs.«01_k».proof.Proof.Pieces
public import proofs.«01_k».proof.Proof.Read

@[expose] public section

set_option maxRecDepth 16384

noncomputable section

namespace Cert.KernelIdeal.Run

open Cert.KernelIdeal.Gen
open Idealize.ShloMosaic Idealize.ShloMosaic.Tactic
open Idealize.SL.Sem

/-- The exponent word of a row's group. -/
def pw {n : ℕ} (v : (⟨2, ![n, 1408]⟩ : Shape).Idx → EReal) (r : Fin n) (g : Fin 11) : BitVec 16 := Scal.pword (Scal.amax (Scal.grp v r g))

/-- The codes of a matrix. -/
def kcode {n : ℕ} (v : (⟨2, ![n, 1408]⟩ : Shape).Idx → EReal) (i : (⟨2, ![n, 1408]⟩ : Shape).Idx) : EReal :=
  Scal.code (v (ix2 (i 0) (i 1))) (pw v (i 0) (Scal.gof (i 1)))

/-- The values the codes of a matrix stand for. -/
def kdeq {n : ℕ} (v : (⟨2, ![n, 1408]⟩ : Shape).Idx → EReal) (i : (⟨2, ![n, 1408]⟩ : Shape).Idx) : EReal :=
  Scal.deq (v (ix2 (i 0) (i 1))) (pw v (i 0) (Scal.gof (i 1)))

/-- The scale bytes of a matrix. -/
def kbyte {n : ℕ} (v : (⟨2, ![n, 1408]⟩ : Shape).Idx → EReal) (i : (⟨2, ![n, 11]⟩ : Shape).Idx) : BitVec 8 :=
  Scal.byte (pw v (i 0) (i 1))

/-- The product of two matrices along their columns. -/
def kprod {n k : ℕ} (a : (⟨2, ![n, 1408]⟩ : Shape).Idx → EReal) (b : (⟨2, ![k, 1408]⟩ : Shape).Idx → EReal) (i : (⟨2, ![n, k]⟩ : Shape).Idx) : EReal :=
  ∑ c : Fin 1408, a (ix2 (i 0) c) * b (ix2 (i 1) c)

theorem kcode_ix2 {n : ℕ} (v : (⟨2, ![n, 1408]⟩ : Shape).Idx → EReal) (r : Fin n) (c : Fin 1408) :
    kcode v (ix2 r c) = Scal.code (v (ix2 r c)) (Scal.pword (Scal.amax (Scal.grp v r (Scal.gof c)))) := rfl

theorem kdeq_ix2 {n : ℕ} (v : (⟨2, ![n, 1408]⟩ : Shape).Idx → EReal) (r : Fin n) (c : Fin 1408) :
    kdeq v (ix2 r c) = Scal.deq (v (ix2 r c)) (Scal.pword (Scal.amax (Scal.grp v r (Scal.gof c)))) := rfl

theorem wgrp_apply (arg2 : Memref sig .tc .vmem S2816x1408 .bf16) (harg2 : arg2.IsWhole) (x1 : Vec Ideal S2816x1408 .bf16) (j g : Fin 11)
    (r : Fin 256) (l : Fin 128) :
    wgrp arg2 harg2 x1 j g (ix2 r l) = x1 (ix2 ⟨256 * j.val + r.val, by omega⟩ ⟨128 * g.val + l.val, by omega⟩) := by
  unfold wgrp
  rw [View.readAt_apply, harg2.read_unread]
  congr 1
  funext a
  apply Fin.ext
  match a with
  | ⟨0, _⟩ => show 256 * j.val + 1 * r.val = _; rw [one_mul]; rfl
  | ⟨1, _⟩ => show 128 * g.val + 1 * l.val = _; rw [one_mul]; rfl

theorem xgrp_apply (arg1 : Memref sig .tc .vmem S512x1408 .bf16) (harg1 : arg1.IsWhole) (x0 : Vec Ideal S512x1408 .bf16) (g : Fin 11)
    (r : Fin 512) (l : Fin 128) :
    xgrp arg1 harg1 x0 g (ix2 r l) = x0 (ix2 r ⟨128 * g.val + l.val, by omega⟩) := by
  unfold xgrp
  rw [shapeCast_apply _ _ _ (ix2 r l) rfl, View.readAt_apply, harg1.read_unread]
  congr 1
  funext a
  apply Fin.ext
  match a with
  | ⟨0, _⟩ => show 0 + 1 * r.val = _; rw [one_mul, zero_add]; rfl
  | ⟨1, _⟩ => show 128 * g.val + 1 * l.val = _; rw [one_mul]; rfl

theorem gof_eq (g : Fin 11) (l : Fin 128) : Scal.gof ⟨128 * g.val + l.val, by omega⟩ = g := by
  apply Fin.ext
  show (128 * g.val + l.val) / 128 = g.val
  omega

theorem wgrp_grp (arg2 : Memref sig .tc .vmem S2816x1408 .bf16) (harg2 : arg2.IsWhole) (x1 : Vec Ideal S2816x1408 .bf16) (j g : Fin 11)
    (r : Fin 256) : (fun l => wgrp arg2 harg2 x1 j g (ix2 r l)) = Scal.grp (n := 2816) x1 ⟨256 * j.val + r.val, by omega⟩ g := by
  funext l
  rw [wgrp_apply]
  unfold Scal.grp
  congr 2
  exact Fin.ext (by show 128 * g.val + l.val = g.val * 128 + l.val; omega)

theorem xgrp_grp (arg1 : Memref sig .tc .vmem S512x1408 .bf16) (harg1 : arg1.IsWhole) (x0 : Vec Ideal S512x1408 .bf16) (g : Fin 11)
    (r : Fin 512) : (fun l => xgrp arg1 harg1 x0 g (ix2 r l)) = Scal.grp (n := 512) x0 r g := by
  funext l
  rw [xgrp_apply]
  unfold Scal.grp
  congr 2
  exact Fin.ext (by show 128 * g.val + l.val = g.val * 128 + l.val; omega)

/-- Where block `j`, group `g` of the weights places an index. -/
theorem embW (j g : Fin 11) (r : Fin 256) (l : Fin 128) :
    (Rect.unit (s := S2816x1408) ![256 * j.val, 128 * g.val] S256x128.size (inbW j g)).emb (ix2 r l)
      = ix2 (n0 := 2816) (n1 := 1408) ⟨256 * j.val + r.val, by omega⟩ ⟨128 * g.val + l.val, by omega⟩ := by
  funext a
  apply Fin.ext
  match a with
  | ⟨0, _⟩ => show 256 * j.val + 1 * r.val = _; rw [one_mul]; rfl
  | ⟨1, _⟩ => show 128 * g.val + 1 * l.val = _; rw [one_mul]; rfl

/-- Where group `g` of a block of activations places an index. -/
theorem embX (g : Fin 11) (r : Fin 512) (l : Fin 128) :
    (Rect.unit (s := S512x1408) ![0, 128 * g.val] S512x128.size (inbX g)).emb (ix2 r l)
      = ix2 (n0 := 512) (n1 := 1408) r ⟨128 * g.val + l.val, by omega⟩ := by
  funext a
  apply Fin.ext
  match a with
  | ⟨0, _⟩ => show 0 + 1 * r.val = _; rw [one_mul, zero_add]; rfl
  | ⟨1, _⟩ => show 128 * g.val + 1 * l.val = _; rw [one_mul]; rfl

/-- Where block `j` of the weights' scale bytes places an index. -/
theorem embS (j : Fin 11) (r : Fin 256) (l : Fin 11) :
    (Rect.unit (s := S2816x11) ![256 * j.val, 0] S256x11.size (inbS j)).emb (ix2 r l)
      = ix2 (n0 := 2816) (n1 := 11) ⟨256 * j.val + r.val, by omega⟩ l := by
  funext a
  apply Fin.ext
  match a with
  | ⟨0, _⟩ => show 256 * j.val + 1 * r.val = _; rw [one_mul]; rfl
  | ⟨1, _⟩ => show 0 + 1 * l.val = _; rw [one_mul, zero_add]; rfl

/-- Where block `j` of the product places an index. -/
theorem embY (j : Fin 11) (r : Fin 512) (l : Fin 256) :
    (Rect.unit (s := S512x2816) ![0, 256 * j.val] S512x256.size (inbY j)).emb (ix2 r l)
      = ix2 (n0 := 512) (n1 := 2816) r ⟨256 * j.val + l.val, by omega⟩ := by
  funext a
  apply Fin.ext
  match a with
  | ⟨0, _⟩ => show 0 + 1 * r.val = _; rw [one_mul, zero_add]; rfl
  | ⟨1, _⟩ => show 256 * j.val + 1 * l.val = _; rw [one_mul]; rfl

/-- Where block `j` of the weights' rows places an index. -/
theorem idxR (j : Fin 11) (r : Fin 256) (c : Fin 1408) :
    (Rect.unit (s := S2816x1408) ![256 * j.val, 0] S256x1408.size (inbR j)).toLoadRect.idx (ix2 r c)
      = ix2 (n0 := 2816) (n1 := 1408) ⟨256 * j.val + r.val, by omega⟩ c := by
  funext a
  apply Fin.ext
  match a with
  | ⟨0, _⟩ => show 256 * j.val + 1 * r.val = _; rw [one_mul]; rfl
  | ⟨1, _⟩ => show 0 + 1 * c.val = _; rw [one_mul, zero_add]; rfl

/-! ## The pieces agree with one function -/

theorem wcPieces_eq (arg2 : Memref sig .tc .vmem S2816x1408 .bf16) (harg2 : arg2.IsWhole) (x1 : Vec Ideal S2816x1408 .bf16) :
    ∀ p ∈ wcPieces arg2 harg2 x1, ∀ x : p.1.shape.Idx, p.2 x = kcode (n := 2816) x1 (p.1.emb x) := by
  intro p hp
  obtain ⟨j, -, hp⟩ := List.mem_flatMap.mp hp
  obtain ⟨g, -, rfl⟩ := List.mem_map.mp hp
  intro (x : S256x128.Idx)
  obtain ⟨r, l, rfl⟩ : ∃ (r : Fin 256) (l : Fin 128), x = ix2 r l := ⟨x 0, x 1, eq_ix2 x⟩
  show Quant.codes ok256 (wgrp arg2 harg2 x1 j g) (ix2 r l) = _
  rw [Quant.codes_apply ok256 (by decide), embW, wgrp_grp, wgrp_apply]
  rw [kcode_ix2, gof_eq]

theorem wbPieces_eq (arg2 : Memref sig .tc .vmem S2816x1408 .bf16) (harg2 : arg2.IsWhole) (x1 : Vec Ideal S2816x1408 .bf16) :
    ∀ p ∈ wbPieces arg2 harg2 x1, ∀ x : p.1.shape.Idx, p.2 x = kdeq (n := 2816) x1 (p.1.emb x) := by
  intro p hp
  obtain ⟨j, -, hp⟩ := List.mem_flatMap.mp hp
  obtain ⟨g, -, rfl⟩ := List.mem_map.mp hp
  intro (x : S256x128.Idx)
  obtain ⟨r, l, rfl⟩ : ∃ (r : Fin 256) (l : Fin 128), x = ix2 r l := ⟨x 0, x 1, eq_ix2 x⟩
  show Quant.deq ok256 (wgrp arg2 harg2 x1 j g) (ix2 r l) = _
  rw [Quant.deq_apply ok256 (by decide), embW, wgrp_grp, wgrp_apply]
  rw [kdeq_ix2, gof_eq]

theorem wsPieces_eq (arg2 : Memref sig .tc .vmem S2816x1408 .bf16) (harg2 : arg2.IsWhole) (x1 : Vec Ideal S2816x1408 .bf16) :
    ∀ p ∈ wsPieces arg2 harg2 x1, ∀ x : p.1.shape.Idx, p.2 x = kbyte (n := 2816) x1 (p.1.emb x) := by
  intro p hp
  obtain ⟨j, -, rfl⟩ := List.mem_map.mp hp
  intro (x : S256x11.Idx)
  obtain ⟨r, l, rfl⟩ : ∃ (r : Fin 256) (l : Fin 11), x = ix2 r l := ⟨x 0, x 1, eq_ix2 x⟩
  show Quant.scales ok256 (wgrp arg2 harg2 x1 j) (ix2 r l) = _
  rw [Quant.scales_apply ok256 (by decide), embS, wgrp_grp]
  rfl

theorem xcPieces_eq (arg1 : Memref sig .tc .vmem S512x1408 .bf16) (harg1 : arg1.IsWhole) (x0 : Vec Ideal S512x1408 .bf16) :
    ∀ p ∈ xcPieces arg1 harg1 x0, ∀ x : p.1.shape.Idx, p.2 x = kcode (n := 512) x0 (p.1.emb x) := by
  intro p hp
  obtain ⟨g, -, rfl⟩ := List.mem_map.mp hp
  intro (x : S512x128.Idx)
  obtain ⟨r, l, rfl⟩ : ∃ (r : Fin 512) (l : Fin 128), x = ix2 r l := ⟨x 0, x 1, eq_ix2 x⟩
  show Quant.codes ok512 (xgrp arg1 harg1 x0 g) (ix2 r l) = _
  rw [Quant.codes_apply ok512 (by decide), embX, xgrp_grp, xgrp_apply]
  rw [kcode_ix2, gof_eq]

theorem xbPieces_eq (arg1 : Memref sig .tc .vmem S512x1408 .bf16) (harg1 : arg1.IsWhole) (x0 : Vec Ideal S512x1408 .bf16) :
    ∀ p ∈ xbPieces arg1 harg1 x0, ∀ x : p.1.shape.Idx, p.2 x = kdeq (n := 512) x0 (p.1.emb x) := by
  intro p hp
  obtain ⟨g, -, rfl⟩ := List.mem_map.mp hp
  intro (x : S512x128.Idx)
  obtain ⟨r, l, rfl⟩ : ∃ (r : Fin 512) (l : Fin 128), x = ix2 r l := ⟨x 0, x 1, eq_ix2 x⟩
  show Quant.deq ok512 (xgrp arg1 harg1 x0 g) (ix2 r l) = _
  rw [Quant.deq_apply ok512 (by decide), embX, xgrp_grp, xgrp_apply]
  rw [kdeq_ix2, gof_eq]

theorem xsPieces_eq (arg1 : Memref sig .tc .vmem S512x1408 .bf16) (harg1 : arg1.IsWhole) (x0 : Vec Ideal S512x1408 .bf16) :
    ∀ p ∈ xsPieces arg1 harg1 x0, ∀ x : p.1.shape.Idx, p.2 x = kbyte (n := 512) x0 (p.1.emb x) := by
  intro p hp
  obtain rfl := List.mem_singleton.mp hp
  intro (x : S512x11.Idx)
  obtain ⟨r, l, rfl⟩ : ∃ (r : Fin 512) (l : Fin 11), x = ix2 r l := ⟨x 0, x 1, eq_ix2 x⟩
  have e : (Rect.unit (s := S512x11) ![0, 0] S512x11.size inb_S512x11_S512x11_0_0).emb (ix2 r l) = ix2 (n0 := 512) (n1 := 11) r l := by
    funext a
    apply Fin.ext
    match a with
    | ⟨0, _⟩ => show 0 + 1 * r.val = r.val; rw [one_mul, zero_add]
    | ⟨1, _⟩ => show 0 + 1 * l.val = l.val; rw [one_mul, zero_add]
  show Quant.scales ok512 (xgrp arg1 harg1 x0) (ix2 r l) = _
  rw [Quant.scales_apply ok512 (by decide), e, xgrp_grp]
  rfl

theorem prod_apply (a : FVec Ideal S512x1408 .bf16) (b : FVec Ideal S256x1408 .bf16) (r : Fin 512) (l : Fin 256) :
    prod a b (ix2 r l) = ∑ c : Fin 1408, a (ix2 r c) * b (ix2 l c) := by
  pointwise [prod]

theorem yPieces_eq (a : Vec Ideal S512x1408 .bf16) (b : Vec Ideal S2816x1408 .bf16) (bs : Fin 11 → FVec Ideal S256x1408 .bf16)
    (hb : ∀ (j : Fin 11) (r : Fin 256) (c : Fin 1408), bs j (ix2 r c) = b (ix2 ⟨256 * j.val + r.val, by omega⟩ c)) :
    ∀ p ∈ yPieces a bs, ∀ x : p.1.shape.Idx, p.2 x = kprod (n := 512) (k := 2816) a b (p.1.emb x) := by
  intro p hp
  obtain ⟨j, -, rfl⟩ := List.mem_map.mp hp
  intro (x : S512x256.Idx)
  obtain ⟨r, l, rfl⟩ : ∃ (r : Fin 512) (l : Fin 256), x = ix2 r l := ⟨x 0, x 1, eq_ix2 x⟩
  show prod a (bs j) (ix2 r l) = _
  rw [prod_apply, embY]
  exact Finset.sum_congr rfl fun c _ => by rw [hb]; rfl

end Cert.KernelIdeal.Run

end
-- ==== Proof.KerVal.lean ====
/- What a point of the grid leaves in each buffer, and the arrays after the run: the codes, the scale bytes and the product of the
   arguments' own rows. -/
module

public import proofs.«01_k».proof.Proof.PieceRead
public import Idealize.ShloMosaic.Lib.Pipeline.ValueKit

@[expose] public section

set_option maxRecDepth 16384

noncomputable section

namespace Cert.KernelIdeal.Run

open Cert.KernelIdeal.Gen
open Idealize.ShloMosaic Idealize.ShloMosaic.TcCoe Idealize.ShloMosaic.Tactic
open Idealize.SL.Sem
open Idealize.ShloMosaic.Pipeline (Dat)

/-! ## The scratch read back -/

theorem xb_cover (arg1 : Memref sig .tc .vmem S512x1408 .bf16) (harg1 : arg1.IsWhole) (x0 : Vec Ideal S512x1408 .bf16) (y : S512x1408.Idx) :
    ∃ p ∈ xbPieces arg1 harg1 x0, y ∈ p.1.set := by
  obtain ⟨r, k, rfl⟩ : ∃ (r : Fin 512) (k : Fin 1408), y = ix2 r k := ⟨y 0, y 1, eq_ix2 y⟩
  refine ⟨_, List.mem_map.mpr ⟨Scal.gof k, mem_down _, rfl⟩, ?_⟩
  rw [Rect.mem_set_unit]
  intro a
  match a with
  | ⟨0, _⟩ => show 0 ≤ r.val ∧ r.val < 0 + 512; omega
  | ⟨1, _⟩ => show 128 * (k.val / 128) ≤ k.val ∧ k.val < 128 * (k.val / 128) + 128; omega

theorem wb_cover (arg2 : Memref sig .tc .vmem S2816x1408 .bf16) (harg2 : arg2.IsWhole) (x1 : Vec Ideal S2816x1408 .bf16) (y : S2816x1408.Idx) :
    ∃ p ∈ wbPieces arg2 harg2 x1, y ∈ p.1.set := by
  obtain ⟨r, k, rfl⟩ : ∃ (r : Fin 2816) (k : Fin 1408), y = ix2 r k := ⟨y 0, y 1, eq_ix2 y⟩
  refine ⟨_, List.mem_flatMap.mpr ⟨⟨r.val / 256, by omega⟩, mem_down _, List.mem_map.mpr ⟨Scal.gof k, mem_down _, rfl⟩⟩, ?_⟩
  rw [Rect.mem_set_unit]
  intro a
  match a with
  | ⟨0, _⟩ => show 256 * (r.val / 256) ≤ r.val ∧ r.val < 256 * (r.val / 256) + 256; omega
  | ⟨1, _⟩ => show 128 * (k.val / 128) ≤ k.val ∧ k.val < 128 * (k.val / 128) + 128; omega

theorem xb_read (arg8 : Memref sig .tc .vmem S512x1408 .bf16) (arg1 : Memref sig .tc .vmem S512x1408 .bf16) (harg1 : arg1.IsWhole)
    (x0 : Vec Ideal S512x1408 .bf16) :
    arg8.view.readCov (xbPieces arg1 harg1 x0) (Rect.unit (s := S512x1408) ![0, 0] S512x1408.size inb_S512x1408_S512x1408_0_0).toLoadRect
      = kdeq (n := 512) x0 := by
  rw [View.readCov_eq_canon']
  funext (x : S512x1408.Idx)
  have e : (Rect.unit (s := S512x1408) ![0, 0] S512x1408.size inb_S512x1408_S512x1408_0_0).toLoadRect.idx x = x := by
    funext a
    apply Fin.ext
    match a with
    | ⟨0, h⟩ => show 0 + 1 * (x ⟨0, h⟩).val = (x ⟨0, h⟩).val; rw [one_mul, zero_add]
    | ⟨1, h⟩ => show 0 + 1 * (x ⟨1, h⟩).val = (x ⟨1, h⟩).val; rw [one_mul, zero_add]
  rw [e]
  exact View.canon_apply_of_pieces _ _ (xbPieces_eq arg1 harg1 x0) _ (xb_cover arg1 harg1 x0 _)

theorem wb_read (arg9 : Memref sig .tc .vmem S2816x1408 .bf16) (arg2 : Memref sig .tc .vmem S2816x1408 .bf16) (harg2 : arg2.IsWhole)
    (x1 : Vec Ideal S2816x1408 .bf16) (j : Fin 11) (r : Fin 256) (k : Fin 1408) :
    arg9.view.readCov (wbPieces arg2 harg2 x1) (Rect.unit (s := S2816x1408) ![256 * j.val, 0] S256x1408.size (inbR j)).toLoadRect (ix2 r k)
      = kdeq (n := 2816) x1 (ix2 ⟨256 * j.val + r.val, by omega⟩ k) := by
  rw [View.readCov_eq_canon']
  show View.canon _ ((Rect.unit (s := S2816x1408) ![256 * j.val, 0] S256x1408.size (inbR j)).toLoadRect.idx (ix2 r k)) = _
  rw [idxR]
  exact View.canon_apply_of_pieces _ _ (wbPieces_eq arg2 harg2 x1) _ (wb_cover arg2 harg2 x1 _)

/-! ## One point -/

section Point

variable (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole)

/-- The activations' codes, at the first point. -/
theorem out_A_3 (hc0 : cond0_0 i) (x0 : Vec Ideal S512x1408 .bf16) (x1 : Vec Ideal S2816x1408 .bf16) :
    out0_A_3 c i arg1 harg1 arg2 harg2 arg3 harg3 arg4 harg4 arg5 harg5 arg6 harg6 arg7 harg7 arg8 harg8 arg9 harg9 hc0 x0 x1 = kcode (n := 512) x0 := by
  funext y
  exact View.read_writes_apply_of_pieces _ _ _ _ (by rw [xc_A]; exact xcPieces_eq arg1 harg1 x0) y (cover0_A_3 c i arg1 harg1 arg2 harg2 arg3 harg3 arg4 harg4 arg5 harg5 arg6 harg6 arg7 harg7 arg8 harg8 arg9 harg9 hc0 x0 x1 y)

/-- The activations' scale bytes, at the first point. -/
theorem out_A_4 (hc0 : cond0_0 i) (x0 : Vec Ideal S512x1408 .bf16) (x1 : Vec Ideal S2816x1408 .bf16) :
    out0_A_4 c i arg1 harg1 arg2 harg2 arg3 harg3 arg4 harg4 arg5 harg5 arg6 harg6 arg7 harg7 arg8 harg8 arg9 harg9 hc0 x0 x1 = kbyte (n := 512) x0 := by
  funext y
  exact View.read_writes_apply_of_pieces _ _ _ _ (by rw [xs_A]; exact xsPieces_eq arg1 harg1 x0) y (cover0_A_4 c i arg1 harg1 arg2 harg2 arg3 harg3 arg4 harg4 arg5 harg5 arg6 harg6 arg7 harg7 arg8 harg8 arg9 harg9 hc0 x0 x1 y)

/-- The weights' codes. -/
theorem out_A_5 (hc0 : cond0_0 i) (x0 : Vec Ideal S512x1408 .bf16) (x1 : Vec Ideal S2816x1408 .bf16) :
    out0_A_5 c i arg1 harg1 arg2 harg2 arg3 harg3 arg4 harg4 arg5 harg5 arg6 harg6 arg7 harg7 arg8 harg8 arg9 harg9 hc0 x0 x1 = kcode (n := 2816) x1 := by
  funext y
  exact View.read_writes_apply_of_pieces _ _ _ _ (by rw [wc_A]; exact wcPieces_eq arg2 harg2 x1) y (cover0_A_5 c i arg1 harg1 arg2 harg2 arg3 harg3 arg4 harg4 arg5 harg5 arg6 harg6 arg7 harg7 arg8 harg8 arg9 harg9 hc0 x0 x1 y)

/-- The weights' scale bytes. -/
theorem out_A_6 (hc0 : cond0_0 i) (x0 : Vec Ideal S512x1408 .bf16) (x1 : Vec Ideal S2816x1408 .bf16) :
    out0_A_6 c i arg1 harg1 arg2 harg2 arg3 harg3 arg4 harg4 arg5 harg5 arg6 harg6 arg7 harg7 arg8 harg8 arg9 harg9 hc0 x0 x1 = kbyte (n := 2816) x1 := by
  funext y
  exact View.read_writes_apply_of_pieces _ _ _ _ (by rw [ws_A]; exact wsPieces_eq arg2 harg2 x1) y (cover0_A_6 c i arg1 harg1 arg2 harg2 arg3 harg3 arg4 harg4 arg5 harg5 arg6 harg6 arg7 harg7 arg8 harg8 arg9 harg9 hc0 x0 x1 y)

/-- The weights' scratch. -/
theorem sout_A_1 (hc0 : cond0_0 i) (x0 : Vec Ideal S512x1408 .bf16) (x1 : Vec Ideal S2816x1408 .bf16) :
    sout0_A_1 c i arg1 harg1 arg2 harg2 arg3 harg3 arg4 harg4 arg5 harg5 arg6 harg6 arg7 harg7 arg8 harg8 arg9 harg9 hc0 x0 x1 = kdeq (n := 2816) x1 := by
  funext y
  exact View.read_writes_apply_of_pieces _ _ _ _ (by rw [wb_A]; exact wbPieces_eq arg2 harg2 x1) y (scover0_A_1 c i arg1 harg1 arg2 harg2 arg3 harg3 arg4 harg4 arg5 harg5 arg6 harg6 arg7 harg7 arg8 harg8 arg9 harg9 hc0 x0 x1 y)

/-- The product, at the first point. -/
theorem out_A_2 (hc0 : cond0_0 i) (x0 : Vec Ideal S512x1408 .bf16) (x1 : Vec Ideal S2816x1408 .bf16) :
    out0_A_2 c i arg1 harg1 arg2 harg2 arg3 harg3 arg4 harg4 arg5 harg5 arg6 harg6 arg7 harg7 arg8 harg8 arg9 harg9 hc0 x0 x1 = kprod (n := 512) (k := 2816) (kdeq (n := 512) x0) (kdeq (n := 2816) x1) := by
  funext y
  exact View.read_writes_apply_of_pieces _ _ _ _ (by rw [y_A, xb_read]; exact yPieces_eq _ _ _ (wb_read arg9 arg2 harg2 x1)) y (cover0_A_2 c i arg1 harg1 arg2 harg2 arg3 harg3 arg4 harg4 arg5 harg5 arg6 harg6 arg7 harg7 arg8 harg8 arg9 harg9 hc0 x0 x1 y)

/-- The activations' codes, at a later point. -/
theorem out_B_3 (hc0 : ¬cond0_0 i) (x0 : Vec Ideal S512x1408 .bf16) (x1 : Vec Ideal S2816x1408 .bf16) (xo5 : Vec Ideal S2816x1408 .fp8e4m3) (xo6 : Vec Ideal S2816x11 .i8) (xs1 : Vec Ideal S2816x1408 .bf16) :
    out0_B_3 c i arg1 harg1 arg2 harg2 arg3 harg3 arg4 harg4 arg5 harg5 arg6 harg6 arg7 harg7 arg8 harg8 arg9 harg9 hc0 x0 x1 xo5 xo6 xs1 = kcode (n := 512) x0 := by
  funext y
  exact View.read_writes_apply_of_pieces _ _ _ _ (by rw [xc_B]; exact xcPieces_eq arg1 harg1 x0) y (cover0_B_3 c i arg1 harg1 arg2 harg2 arg3 harg3 arg4 harg4 arg5 harg5 arg6 harg6 arg7 harg7 arg8 harg8 arg9 harg9 hc0 x0 x1 xo5 xo6 xs1 y)

/-- The activations' scale bytes, at a later point. -/
theorem out_B_4 (hc0 : ¬cond0_0 i) (x0 : Vec Ideal S512x1408 .bf16) (x1 : Vec Ideal S2816x1408 .bf16) (xo5 : Vec Ideal S2816x1408 .fp8e4m3) (xo6 : Vec Ideal S2816x11 .i8) (xs1 : Vec Ideal S2816x1408 .bf16) :
    out0_B_4 c i arg1 harg1 arg2 harg2 arg3 harg3 arg4 harg4 arg5 harg5 arg6 harg6 arg7 harg7 arg8 harg8 arg9 harg9 hc0 x0 x1 xo5 xo6 xs1 = kbyte (n := 512) x0 := by
  funext y
  exact View.read_writes_apply_of_pieces _ _ _ _ (by rw [xs_B]; exact xsPieces_eq arg1 harg1 x0) y (cover0_B_4 c i arg1 harg1 arg2 harg2 arg3 harg3 arg4 harg4 arg5 harg5 arg6 harg6 arg7 harg7 arg8 harg8 arg9 harg9 hc0 x0 x1 xo5 xo6 xs1 y)

/-- The product, at a later point. -/
theorem out_B_2 (hc0 : ¬cond0_0 i) (x0 : Vec Ideal S512x1408 .bf16) (x1 : Vec Ideal S2816x1408 .bf16) (xo5 : Vec Ideal S2816x1408 .fp8e4m3) (xo6 : Vec Ideal S2816x11 .i8) (xs1 : Vec Ideal S2816x1408 .bf16) :
    out0_B_2 c i arg1 harg1 arg2 harg2 arg3 harg3 arg4 harg4 arg5 harg5 arg6 harg6 arg7 harg7 arg8 harg8 arg9 harg9 hc0 x0 x1 xo5 xo6 xs1 = kprod (n := 512) (k := 2816) (kdeq (n := 512) x0) xs1 := by
  funext y
  exact View.read_writes_apply_of_pieces _ _ _ _ (by rw [y_B, xb_read]; exact yPieces_eq _ _ _ (fun j r k => by rw [View.readAt_apply, harg9.read_unread]; exact congrArg xs1 (idxR j r k))) y (cover0_B_2 c i arg1 harg1 arg2 harg2 arg3 harg3 arg4 harg4 arg5 harg5 arg6 harg6 arg7 harg7 arg8 harg8 arg9 harg9 hc0 x0 x1 xo5 xo6 xs1 y)

end Point

variable (m : (ℓ : Loc nD τ sig) → Buf (Elt Ideal) ℓ)

/-! ## The blocks -/

/-- The activations as the region finds them: the first argument's rows, in order. -/
abbrev XA (c : Dev nD) : Vec Ideal S4096x1408 .bf16 := V m c main_v0

/-- The weights. -/
abbrev WA (c : Dev nD) : Vec Ideal S2816x1408 .bf16 := m ((c : Thread nD τ).loc main_arg1)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, _)

theorem lt8 (t : Fin cfg0.N) : t.val < 8 := lt_of_lt_of_eq t.isLt N_0

/-- The weights' block is the weights. -/
theorem iblk1 (c : Dev nD) (t : Fin cfg0.N) : iblk m c 1 t = WA m c := by
  funext (y : S2816x1408.Idx)
  rw [show WA m c = V m c main_arg1 from (V_main_arg1 m c).symm]
  blk_ext [iblk, V, idx t]

/-- A point's block of activations is 512 of their rows. -/
theorem iblk0 (c : Dev nD) (t : Fin cfg0.N) (r : Fin 512) (k : Fin 1408) :
    iblk m c 0 t (ix2 r k) = XA m c (ix2 ⟨512 * t.val + r.val, by have := lt8 t; omega⟩ k) := by
  blk_ext [iblk, V, idx t]

/-! ## Every point -/

/-- What the buffers hold after each point: the weights' parts are those of the whole run. -/
theorem outs_eq (c : Dev nD) (n : ℕ) (hn : n < cfg0.N) :
    outsAt0 m c n hn = (kprod (n := 512) (k := 2816) (kdeq (n := 512) (iblk m c 0 ⟨n, hn⟩)) (kdeq (n := 2816) (WA m c)),
      kcode (n := 512) (iblk m c 0 ⟨n, hn⟩), kbyte (n := 512) (iblk m c 0 ⟨n, hn⟩),
      kcode (n := 2816) (WA m c), kbyte (n := 2816) (WA m c), kdeq (n := 2816) (WA m c)) := by
  induction n with
  | zero =>
    rw [outsAt0_A m c ⟨0, hn⟩ (Nat.zero_mod _), out_A_2, out_A_3, out_A_4, out_A_5, out_A_6, sout_A_1, iblk1]
  | succ n ih =>
    have h8 := lt8 ⟨n + 1, hn⟩
    rw [outsAt0_B m c ⟨n + 1, hn⟩ (by show ¬ (n + 1) % 8 = 0; have : n + 1 < 8 := h8; omega), out_B_2, out_B_3, out_B_4]
    unfold out0_B_5 out0_B_6 sout0_B_1
    show (kprod (n := 512) (k := 2816) _ (outsAt0 m c n _).2.2.2.2.2, _, _, (outsAt0 m c n _).2.2.2.1, (outsAt0 m c n _).2.2.2.2.1, (outsAt0 m c n _).2.2.2.2.2) = _
    rw [ih (Nat.lt_of_succ_lt hn)]

/-! ## Rows of a block are rows of the matrix -/

theorem grp_row {n n' : ℕ} (v : (⟨2, ![n, 1408]⟩ : Shape).Idx → EReal) (v' : (⟨2, ![n', 1408]⟩ : Shape).Idx → EReal) (r : Fin n) (r' : Fin n')
    (h : ∀ k, v (ix2 r k) = v' (ix2 r' k)) (g : Fin 11) : Scal.grp v r g = Scal.grp v' r' g := funext fun _ => h _

theorem kcode_row {n n' : ℕ} (v : (⟨2, ![n, 1408]⟩ : Shape).Idx → EReal) (v' : (⟨2, ![n', 1408]⟩ : Shape).Idx → EReal) (r : Fin n) (r' : Fin n')
    (h : ∀ k, v (ix2 r k) = v' (ix2 r' k)) (k : Fin 1408) : kcode v (ix2 r k) = kcode v' (ix2 r' k) := by
  rw [kcode_ix2, kcode_ix2, h, grp_row v v' r r' h]

theorem kdeq_row {n n' : ℕ} (v : (⟨2, ![n, 1408]⟩ : Shape).Idx → EReal) (v' : (⟨2, ![n', 1408]⟩ : Shape).Idx → EReal) (r : Fin n) (r' : Fin n')
    (h : ∀ k, v (ix2 r k) = v' (ix2 r' k)) (k : Fin 1408) : kdeq v (ix2 r k) = kdeq v' (ix2 r' k) := by
  rw [kdeq_ix2, kdeq_ix2, h, grp_row v v' r r' h]

theorem kbyte_row {n n' : ℕ} (v : (⟨2, ![n, 1408]⟩ : Shape).Idx → EReal) (v' : (⟨2, ![n', 1408]⟩ : Shape).Idx → EReal) (r : Fin n) (r' : Fin n')
    (h : ∀ k, v (ix2 r k) = v' (ix2 r' k)) (g : Fin 11) : kbyte v (ix2 r g) = kbyte v' (ix2 r' g) :=
  congrArg (fun u => Scal.byte (Scal.pword (Scal.amax u))) (grp_row v v' r r' h g)

theorem kprod_row {n n' k : ℕ} (a : (⟨2, ![n, 1408]⟩ : Shape).Idx → EReal) (a' : (⟨2, ![n', 1408]⟩ : Shape).Idx → EReal)
    (b : (⟨2, ![k, 1408]⟩ : Shape).Idx → EReal) (r : Fin n) (r' : Fin n') (h : ∀ c, a (ix2 r c) = a' (ix2 r' c)) (q : Fin k) :
    kprod a b (ix2 r q) = kprod a' b (ix2 r' q) :=
  Finset.sum_congr rfl fun c _ => congrArg (· * _) (h c)

/-! ## The arrays after the run -/

theorem final2 (c : Dev nD) : (dats m 0 c).arrAt 2 cfg0.N = kprod (n := 4096) (k := 2816) (kdeq (n := 4096) (XA m c)) (kdeq (n := 2816) (WA m c)) := by
  refine (dats m 0 c).arrAt_eq_of_covers 2 _ (by decide +kernel) fun t _ (y : S512x2816.Idx) => ?_
  blk_simp
  rw [after0_2, outs_eq]
  obtain ⟨r, q, rfl⟩ : ∃ (r : Fin 512) (q : Fin 2816), y = ix2 r q := ⟨y 0, y 1, eq_ix2 y⟩
  refine (kprod_row _ _ _ r ⟨512 * t.val + r.val, by have := lt8 t; omega⟩ (kdeq_row _ _ _ _ (iblk0 m c t r)) q).trans ?_
  blk_ext [idx t]

theorem final3 (c : Dev nD) : (dats m 0 c).arrAt 3 cfg0.N = kcode (n := 4096) (XA m c) := by
  refine (dats m 0 c).arrAt_eq_of_covers 3 _ (by decide +kernel) fun t _ (y : S512x1408.Idx) => ?_
  blk_simp
  rw [after0_3, outs_eq]
  obtain ⟨r, q, rfl⟩ : ∃ (r : Fin 512) (q : Fin 1408), y = ix2 r q := ⟨y 0, y 1, eq_ix2 y⟩
  refine (kcode_row _ _ r ⟨512 * t.val + r.val, by have := lt8 t; omega⟩ (iblk0 m c t r) q).trans ?_
  blk_ext [idx t]

theorem final4 (c : Dev nD) : (dats m 0 c).arrAt 4 cfg0.N = kbyte (n := 4096) (XA m c) := by
  refine (dats m 0 c).arrAt_eq_of_covers 4 _ (by decide +kernel) fun t _ (y : S512x11.Idx) => ?_
  blk_simp
  rw [after0_4, outs_eq]
  obtain ⟨r, q, rfl⟩ : ∃ (r : Fin 512) (q : Fin 11), y = ix2 r q := ⟨y 0, y 1, eq_ix2 y⟩
  refine (kbyte_row _ _ r ⟨512 * t.val + r.val, by have := lt8 t; omega⟩ (iblk0 m c t r) q).trans ?_
  blk_ext [idx t]

theorem final5 (c : Dev nD) : (dats m 0 c).arrAt 5 cfg0.N = kcode (n := 2816) (WA m c) := by
  refine (dats m 0 c).arrAt_eq_of_covers 5 _ (by decide +kernel) fun t _ (y : S2816x1408.Idx) => ?_
  blk_simp
  rw [after0_5, outs_eq]
  blk_ext [idx t]

theorem final6 (c : Dev nD) : (dats m 0 c).arrAt 6 cfg0.N = kbyte (n := 2816) (WA m c) := by
  refine (dats m 0 c).arrAt_eq_of_covers 6 _ (by decide +kernel) fun t _ (y : S2816x11.Idx) => ?_
  blk_simp
  rw [after0_6, outs_eq]
  blk_ext [idx t]

end Cert.KernelIdeal.Run

end
-- ==== Proof.RefRead.lean ====
/- The reference's results at an index: each element is a scalar function (`Scal`) of its row's group. -/
module

public import proofs.«01_k».proof.Proof.Gen.ReferenceIdeal.Frame
public import proofs.«01_k».proof.Proof.Scal

@[expose] public section

set_option maxRecDepth 16384

noncomputable section

namespace Cert.ReferenceIdeal.Read

open Cert.ReferenceIdeal Cert.ReferenceIdeal.Gen Idealize.ShloMosaic

theorem ofBits_bot : Ideal.ofBits .f32 4286578688#32 = ⊥ := by simp [Ideal.ofBits, Ideal.ieee]

/-- The exponent of an activation row's group. -/
theorem xe_apply (x : Vec Ideal S4096x1408 .bf16) (r : Fin 4096) (g : Fin 11) : k0_pay3 x (ix2 r g) = Scal.rexp (Scal.amax (Scal.grp x r g)) := by
  pointwise [k0_pay3, k0_pay2]
  rw [ofBits_bot]
  rfl

/-- The exponent of a weight row's group. -/
theorem we_apply (x : Vec Ideal S2816x1408 .bf16) (r : Fin 2816) (g : Fin 11) :
    k0_pay9 (k0_pay7 x) (k0_pay8 (F := Ideal)) (ix2 r g) = Scal.rexp (Scal.amax (Scal.grp x r g)) := by
  pointwise [k0_pay9, k0_pay7, k0_pay8, k0_pay6]
  rw [ofBits_bot]
  rfl

/-- The activations' scale bytes. -/
theorem xs_apply (x : Vec Ideal S4096x1408 .bf16) (r : Fin 4096) (g : Fin 11) :
    k0_pay4 x (ix2 r g) = Scal.rbyte (Scal.rexp (Scal.amax (Scal.grp x r g))) := by
  pointwise [k0_pay4]
  rw [xe_apply]
  rfl

/-- The weights' scale bytes. -/
theorem ws_apply (x : Vec Ideal S2816x1408 .bf16) (r : Fin 2816) (g : Fin 11) :
    k0_pay10 (k0_pay7 x) (k0_pay8 (F := Ideal)) (ix2 r g) = Scal.rbyte (Scal.rexp (Scal.amax (Scal.grp x r g))) := by
  pointwise [k0_pay10]
  rw [we_apply]
  rfl

/-- The activations' codes. -/
theorem xc_apply (x : Vec Ideal S4096x1408 .bf16) (r : Fin 4096) (c : Fin 1408) :
    k0_pay5 x (ix2 r c) = Scal.rcode (x (ix2 r c)) (Scal.rexp (Scal.amax (Scal.grp x r (Scal.gof c)))) := by
  pointwise [k0_pay5, k0_pay2]
  rw [xe_apply]
  rfl

/-- The weights' codes. -/
theorem wc_apply (x : Vec Ideal S2816x1408 .bf16) (r : Fin 2816) (c : Fin 1408) :
    k0_pay11 (k0_pay6 x) (k0_pay7 x) (k0_pay8 (F := Ideal)) (ix2 r c) = Scal.rcode (x (ix2 r c)) (Scal.rexp (Scal.amax (Scal.grp x r (Scal.gof c)))) := by
  pointwise [k0_pay11, k0_pay6]
  rw [we_apply]
  rfl

/-- The product. -/
theorem y_apply (x : Vec Ideal S4096x1408 .bf16) (w : Vec Ideal S2816x1408 .bf16) (r : Fin 4096) (n : Fin 2816) :
    k0_pay1 (k0_pay10 (k0_pay7 w) (k0_pay8 (F := Ideal))) (k0_pay11 (k0_pay6 w) (k0_pay7 w) (k0_pay8 (F := Ideal))) (k0_pay12 (k0_pay5 x))
        (k0_pay13 (F := Ideal) (k0_pay4 x)) (ix2 r n)
      = ∑ c : Fin 1408, Scal.rdeq (x (ix2 r c)) (Scal.rexp (Scal.amax (Scal.grp x r (Scal.gof c))))
          * Scal.rdeq (w (ix2 n c)) (Scal.rexp (Scal.amax (Scal.grp w n (Scal.gof c)))) := by
  pointwise [k0_pay1, k0_pay12, k0_pay13]
  refine Finset.sum_congr rfl fun c _ => ?_
  rw [xc_apply, wc_apply, xs_apply, ws_apply]
  rfl

end Cert.ReferenceIdeal.Read

end
-- ==== Proof.RefVal.lean ====
/- The arrays the reference leaves: its codes, its scale bytes and its product, element by element, of the arguments' own rows. -/
module

public import proofs.«01_k».proof.Proof.RefRead
public import Idealize.ShloMosaic.Lib.Pipeline.ValueKit

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.ShloMosaic.Tactic
open Idealize.SL.Sem
open Idealize.ShloMosaic.Pipeline (Dat)

/-- The reference's exponent of a group. -/
def re {n : ℕ} (v : (⟨2, ![n, 1408]⟩ : Shape).Idx → EReal) (r : Fin n) (g : Fin 11) : EReal := Scal.rexp (Scal.amax (Scal.grp v r g))

/-- The reference's codes of a matrix. -/
def rcode {n : ℕ} (v : (⟨2, ![n, 1408]⟩ : Shape).Idx → EReal) (i : (⟨2, ![n, 1408]⟩ : Shape).Idx) : EReal :=
  Scal.rcode (v (ix2 (i 0) (i 1))) (re v (i 0) (Scal.gof (i 1)))

/-- The values the reference's codes of a matrix stand for. -/
def rdeq {n : ℕ} (v : (⟨2, ![n, 1408]⟩ : Shape).Idx → EReal) (i : (⟨2, ![n, 1408]⟩ : Shape).Idx) : EReal :=
  Scal.rdeq (v (ix2 (i 0) (i 1))) (re v (i 0) (Scal.gof (i 1)))

/-- The reference's scale bytes of a matrix. -/
def rbyte {n : ℕ} (v : (⟨2, ![n, 1408]⟩ : Shape).Idx → EReal) (i : (⟨2, ![n, 11]⟩ : Shape).Idx) : BitVec 8 :=
  Scal.rbyte (re v (i 0) (i 1))

/-- The reference's product. -/
def rprod {n k : ℕ} (x : (⟨2, ![n, 1408]⟩ : Shape).Idx → EReal) (w : (⟨2, ![k, 1408]⟩ : Shape).Idx → EReal) (i : (⟨2, ![n, k]⟩ : Shape).Idx) : EReal :=
  ∑ c : Fin 1408, rdeq x (ix2 (i 0) c) * rdeq w (ix2 (i 1) c)

variable (m : (ℓ : Loc nD τ sig) → Buf (Elt Ideal) ℓ)

/-- The activations in the shape the launch reads. -/
def XA (c : Dev nD) : Vec Ideal S4096x1408 .bf16 := V m c main_v0

/-- The weights. -/
def WA (c : Dev nD) : Vec Ideal S2816x1408 .bf16 := m ((c.tc : Thread nD τ).loc main_arg1)

theorem zz : (![0, 0] : Fin 2 → Nat) = fun _ => 0 := by funext a; fin_cases a <;> rfl

/-- Every window's block is at index zero. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The block of activations is the whole array. -/
theorem iblk0 (c : Dev nD) (t : Fin cfg0.N) : iblk m c 0 t = XA m c := by
  funext (y : S4096x1408.Idx)
  blk_ext [iblk, V, XA, idx t]

/-- The block of weights is the whole array. -/
theorem iblk1 (c : Dev nD) (t : Fin cfg0.N) : iblk m c 1 t = WA m c := by
  funext (y : S2816x1408.Idx)
  blk_ext [iblk, V, WA, idx t]

/-- What one run of the body leaves for the product. -/
theorem out2 (x : Vec Ideal S4096x1408 .bf16) (w : Vec Ideal S2816x1408 .bf16) : out0_2 x w = rprod (n := 4096) (k := 2816) x w := by
  unfold_out out0_2
  rw [View.canon_unit_zero zz, View.ld_unit_zero zz, View.ld_unit_zero zz]
  funext y
  obtain ⟨r, q, rfl⟩ : ∃ (r : Fin 4096) (q : Fin 2816), y = ix2 r q := ⟨y 0, y 1, eq_ix2 y⟩
  exact y_apply x w r q

/-- What one run of the body leaves for the codes of the activations. -/
theorem out3 (x : Vec Ideal S4096x1408 .bf16) (w : Vec Ideal S2816x1408 .bf16) : out0_3 x w = rcode (n := 4096) x := by
  unfold_out out0_3
  rw [View.canon_unit_zero zz, View.ld_unit_zero zz]
  funext y
  obtain ⟨r, q, rfl⟩ : ∃ (r : Fin 4096) (q : Fin 1408), y = ix2 r q := ⟨y 0, y 1, eq_ix2 y⟩
  exact xc_apply x r q

/-- What one run of the body leaves for the scale bytes of the activations. -/
theorem out4 (x : Vec Ideal S4096x1408 .bf16) (w : Vec Ideal S2816x1408 .bf16) : out0_4 x w = rbyte (n := 4096) x := by
  unfold_out out0_4
  rw [View.canon_unit_zero zz, View.ld_unit_zero zz]
  funext y
  obtain ⟨r, q, rfl⟩ : ∃ (r : Fin 4096) (q : Fin 11), y = ix2 r q := ⟨y 0, y 1, eq_ix2 y⟩
  exact xs_apply x r q

/-- What one run of the body leaves for the codes of the weights. -/
theorem out5 (x : Vec Ideal S4096x1408 .bf16) (w : Vec Ideal S2816x1408 .bf16) : out0_5 x w = rcode (n := 2816) w := by
  unfold_out out0_5
  rw [View.canon_unit_zero zz, View.ld_unit_zero zz]
  funext y
  obtain ⟨r, q, rfl⟩ : ∃ (r : Fin 2816) (q : Fin 1408), y = ix2 r q := ⟨y 0, y 1, eq_ix2 y⟩
  exact wc_apply w r q

/-- What one run of the body leaves for the scale bytes of the weights. -/
theorem out6 (x : Vec Ideal S4096x1408 .bf16) (w : Vec Ideal S2816x1408 .bf16) : out0_6 x w = rbyte (n := 2816) w := by
  unfold_out out0_6
  rw [View.canon_unit_zero zz, View.ld_unit_zero zz]
  funext y
  obtain ⟨r, q, rfl⟩ : ∃ (r : Fin 2816) (q : Fin 11), y = ix2 r q := ⟨y 0, y 1, eq_ix2 y⟩
  exact ws_apply w r q

/-- The array after the run: the product. -/
theorem final2 (c : Dev nD) : (dats m 0 c).arrAt 2 cfg0.N = rprod (n := 4096) (k := 2816) (XA m c) (WA m c) := by
  refine (dats m 0 c).arrAt_eq_of_covers 2 _ (by decide +kernel) fun t _ (y : S4096x2816.Idx) => ?_
  blk_simp
  rw [after0_2, iblk0, iblk1, out2]
  blk_ext [idx t]

/-- The array after the run: the codes of the activations. -/
theorem final3 (c : Dev nD) : (dats m 0 c).arrAt 3 cfg0.N = rcode (n := 4096) (XA m c) := by
  refine (dats m 0 c).arrAt_eq_of_covers 3 _ (by decide +kernel) fun t _ (y : S4096x1408.Idx) => ?_
  blk_simp
  rw [after0_3, iblk0, out3]
  blk_ext [idx t]

/-- The array after the run: the scale bytes of the activations. -/
theorem final4 (c : Dev nD) : (dats m 0 c).arrAt 4 cfg0.N = rbyte (n := 4096) (XA m c) := by
  refine (dats m 0 c).arrAt_eq_of_covers 4 _ (by decide +kernel) fun t _ (y : S4096x11.Idx) => ?_
  blk_simp
  rw [after0_4, iblk0, out4]
  blk_ext [idx t]

/-- The array after the run: the codes of the weights. -/
theorem final5 (c : Dev nD) : (dats m 0 c).arrAt 5 cfg0.N = rcode (n := 2816) (WA m c) := by
  refine (dats m 0 c).arrAt_eq_of_covers 5 _ (by decide +kernel) fun t _ (y : S2816x1408.Idx) => ?_
  blk_simp
  rw [after0_5, iblk1, out5]
  blk_ext [idx t]

/-- The array after the run: the scale bytes of the weights. -/
theorem final6 (c : Dev nD) : (dats m 0 c).arrAt 6 cfg0.N = rbyte (n := 2816) (WA m c) := by
  refine (dats m 0 c).arrAt_eq_of_covers 6 _ (by decide +kernel) fun t _ (y : S2816x11.Idx) => ?_
  blk_simp
  rw [after0_6, iblk1, out6]
  blk_ext [idx t]

end Cert.ReferenceIdeal.Val

end
-- ==== Proof.Words.lean ====
/- The values of bf16 words that count the binades and fractions, and the exponent a group maximum gets from them. -/
module

public import Idealize.ShloMosaic.Lib.Pointwise

@[expose] public section

set_option maxRecDepth 16384

noncomputable section

namespace Cert.Words

open Idealize.ShloMosaic

/-- The real a non-negative finite bf16 word with exponent field `k` and fraction field `l` denotes. -/
def val (k l : ℕ) : ℝ := if k = 0 then (l : ℝ) * 2 ^ (-133 : ℤ) else (128 + (l : ℝ)) * 2 ^ ((k : ℤ) - 134)

theorem ofBits_word {k l : ℕ} (hk : k < 255) (hl : l < 128) :
    Ideal.ofBits .bf16 (BitVec.ofNat 16 (128 * k + l)) = ((val k l : ℝ) : EReal) := by
  have hn : (128 * k + l) % 2 ^ 16 = 128 * k + l := Nat.mod_eq_of_lt (by omega)
  have e1 : ((BitVec.ofNat 16 (128 * k + l)).extractLsb' 7 8).toNat = k := by
    rw [BitVec.extractLsb'_toNat, BitVec.toNat_ofNat, hn, Nat.shiftRight_eq_div_pow]
    omega
  have e2 : ((BitVec.ofNat 16 (128 * k + l)).extractLsb' 0 7).toNat = l := by
    rw [BitVec.extractLsb'_toNat, BitVec.toNat_ofNat, hn, Nat.shiftRight_eq_div_pow]
    omega
  have e3 : ((BitVec.ofNat 16 (128 * k + l)).extractLsb' 15 1 == 1#1) = false := by
    rw [beq_eq_false_iff_ne]
    intro h
    have := congrArg BitVec.toNat h
    rw [BitVec.extractLsb'_toNat, BitVec.toNat_ofNat, hn, Nat.shiftRight_eq_div_pow] at this
    simp at this
    omega
  show Ideal.ieee 8 7 _ = _
  unfold Ideal.ieee
  simp only [e1, e2, e3]
  rw [if_neg (by omega)]
  unfold val
  by_cases h0 : k = 0
  · subst h0
    simp
  · rw [if_neg h0, if_neg h0]
    rw [show ((k : ℤ) - (2 ^ (8 - 1) - 1) - (7 : ℕ)) = k - 134 by norm_num; ring]
    push_cast
    norm_num

theorem ofBits_inf : Ideal.ofBits .bf16 (BitVec.ofNat 16 (128 * 255)) = ⊤ := by
  simp [Ideal.ofBits, Ideal.ieee]

theorem val_zero {k : ℕ} (h : k ≠ 0) : val k 0 = 2 ^ ((k : ℤ) - 127) := by
  unfold val
  rw [if_neg h, show ((k : ℤ) - 127) = 7 + (k - 134) by ring, zpow_add₀ two_ne_zero]
  norm_num

theorem val_mono {k l l' : ℕ} (h : l ≤ l') : val k l ≤ val k l' := by
  unfold val
  have : (l : ℝ) ≤ l' := by exact_mod_cast h
  split <;> gcongr

theorem val_zero_mono {i k : ℕ} (h : i ≤ k) : val i 0 ≤ val k 0 := by
  by_cases hi : i = 0
  · subst hi
    have : val 0 0 = 0 := by simp [val]
    rw [this]; unfold val; split <;> positivity
  · rw [val_zero hi, val_zero (by omega)]
    apply zpow_le_zpow_right₀ (by norm_num)
    omega

/-- A real from zero to the greatest finite binade lies in one binade and one fraction step of it. -/
theorem exists_word (a : ℝ) (h0 : 0 ≤ a) : ∃ k ≤ 254, (∀ i ≤ 254, val i 0 ≤ a ↔ i ≤ k) ∧ ∃ f ≤ 127, ∀ l ≤ 127, val k l ≤ a ↔ l ≤ f := by
  classical
  have z : val 0 0 ≤ a := by simpa [val] using h0
  let k := Nat.findGreatest (fun i => val i 0 ≤ a) 254
  have hk : val k 0 ≤ a := Nat.findGreatest_spec (P := fun i => val i 0 ≤ a) (Nat.zero_le _) z
  let f := Nat.findGreatest (fun l => val k l ≤ a) 127
  have hf : val k f ≤ a := Nat.findGreatest_spec (P := fun l => val k l ≤ a) (Nat.zero_le _) hk
  refine ⟨k, Nat.findGreatest_le _, fun i hi => ⟨fun h => Nat.le_findGreatest hi h, fun h => (val_zero_mono h).trans hk⟩,
    f, Nat.findGreatest_le _, fun l hl => ⟨fun h => Nat.le_findGreatest hl h, fun h => (val_mono h).trans hf⟩⟩

/-- The exponent field rounded up at three quarters of a binade: the bounds on the real it stands for. -/
theorem bounds {a : ℝ} {k f : ℕ} (h2 : a < 2 ^ (128 : ℤ)) (hk : k ≤ 254) (hf : f ≤ 127) (hK : ∀ i ≤ 254, val i 0 ≤ a ↔ i ≤ k)
    (hF : ∀ l ≤ 127, val k l ≤ a ↔ l ≤ f) :
    a < 7 / 4 * 2 ^ (((k + (if 96 ≤ f then 1 else 0) : ℕ) : ℤ) - 127) ∧
      (k ≠ 0 → 7 / 4 * 2 ^ (((k + (if 96 ≤ f then 1 else 0) : ℕ) : ℤ) - 128) ≤ a) := by
  have up : a < 2 ^ ((k : ℤ) - 126) := by
    by_cases h : k = 254
    · rw [h, show (((254 : ℕ) : ℤ) - 126) = 128 by norm_num]; exact h2
    · have := (hK (k + 1) (by omega)).not.mpr (by omega)
      rw [val_zero (by omega)] at this
      push_cast at this
      rw [show ((k : ℤ) - 126) = k + 1 - 127 by ring]
      exact not_le.mp this
  have dbl : ∀ z : ℤ, (2 : ℝ) ^ (z + 1) = 2 * 2 ^ z := fun z => by rw [zpow_add₀ two_ne_zero]; ring
  have pos : ∀ z : ℤ, (0 : ℝ) < 2 ^ z := fun z => by positivity
  have e7 : k ≠ 0 → val k 96 = 7 / 4 * 2 ^ ((k : ℤ) - 127) := fun h => by
    unfold val
    rw [if_neg h, show ((k : ℤ) - 127) = 7 + (k - 134) by ring, zpow_add₀ two_ne_zero]
    norm_num; ring
  have u1 := dbl ((k : ℤ) - 127)
  rw [show ((k : ℤ) - 127 + 1) = k - 126 by ring] at u1
  have p1 := pos ((k : ℤ) - 127)
  split
  · rename_i h96
    push_cast
    rw [show ((k : ℤ) + 1 - 127) = k - 126 by ring, show ((k : ℤ) + 1 - 128) = k - 127 by ring]
    refine ⟨by linarith, fun h => ?_⟩
    rw [← e7 h]
    exact (hF 96 (by omega)).mpr h96
  · rename_i h96
    rw [Nat.add_zero]
    have u2 := dbl ((k : ℤ) - 128)
    rw [show ((k : ℤ) - 128 + 1) = k - 127 by ring] at u2
    have p2 := pos ((k : ℤ) - 128)
    by_cases h : k = 0
    · refine ⟨?_, fun h' => absurd h h'⟩
      have := (hF 96 (by omega)).not.mpr h96
      subst h
      have e : val 0 96 = 3 / 2 * 2 ^ (((0 : ℕ) : ℤ) - 127) := by simp [val]; norm_num
      have := not_le.mp this
      rw [e] at this
      linarith
    · have := not_le.mp ((hF 96 (by omega)).not.mpr h96)
      rw [e7 h] at this
      refine ⟨this, fun _ => ?_⟩
      have := (hK k hk).mpr le_rfl
      rw [val_zero h] at this
      linarith

end Cert.Words

end
-- ==== Proof.Tables.lean ====
/- Facts about the bit fields of a word, decided over all of them. -/
module

public import proofs.«01_k».proof.Proof.Scal

@[expose] public section

set_option maxRecDepth 16384

noncomputable section

namespace Cert.Scal

open Idealize.ShloMosaic

/-- Counting the numbers below `n`. -/
theorem fold_lt : ∀ n : Fin 129, Finset.univ.fold IntOp.addi 0#32 (fun l : Fin 128 => BitVec.setWidth 32 (BitVec.ofBool (decide (l.val < n.val)))) = BitVec.ofNat 32 n.val := by
  decide +kernel

/-- The exponent word of a word with exponent field `k` and fraction field `f`. -/
theorem pick_eq : ∀ k : Fin 255, ∀ f : Fin 128, pick (BitVec.ofNat 16 (128 * k.val + f.val))
    = if 10 ≤ k.val + (if 96 ≤ f.val then 1 else 0) then BitVec.ofNat 16 (128 * (k.val + (if 96 ≤ f.val then 1 else 0))) else 17280#16 := by
  decide +kernel

/-- The two counts of binades, less one. -/
theorem two_counts : ∀ k : Fin 255, IntOp.maxsi (IntOp.subi (IntOp.addi (BitVec.ofNat 32 (min (k.val + 1) 128)) (BitVec.ofNat 32 (k.val + 1 - 128))) 1#32) 0#32
    = BitVec.ofNat 32 k.val := by
  decide +kernel

/-- The count of fractions, less one. -/
theorem one_count : ∀ f : Fin 128, IntOp.maxsi (IntOp.subi (BitVec.ofNat 32 (f.val + 1)) 1#32) 0#32 = BitVec.ofNat 32 f.val := by
  decide +kernel

/-- A field moved up by seven bits. -/
theorem shl : ∀ k : Fin 256, IntOp.shli .vector (BitVec.ofNat 32 k.val) 7#32 = BitVec.ofNat 32 (128 * k.val) := by
  decide +kernel

/-- The word of the inverse scale. -/
theorem inv_word : ∀ E : Fin 256, 10 ≤ E.val → IntOp.subi 33536#16 (BitVec.ofNat 16 (128 * E.val)) = BitVec.ofNat 16 (128 * (262 - E.val) + 0) := by
  decide +kernel

/-- The word of the scale. -/
theorem scale_word : ∀ E : Fin 256, 10 ≤ E.val → IntOp.subi (BitVec.ofNat 16 (128 * E.val)) 1024#16 = BitVec.ofNat 16 (128 * (E.val - 8) + 0) := by
  decide +kernel

/-- The kernel's scale byte. -/
theorem byte_eq : ∀ E : Fin 256, 10 ≤ E.val → byte (BitVec.ofNat 16 (128 * E.val)) = BitVec.ofNat 8 (E.val - 8) := by
  decide +kernel

/-- The reference's scale byte, from the exponent as an integer. -/
theorem rbyte_int : ∀ E : Fin 256, 10 ≤ E.val → BitVec.setWidth 8 (IntOp.addi (BitVec.ofInt 32 ((E.val : ℤ) - 135)) 127#32) = BitVec.ofNat 8 (E.val - 8) := by
  decide +kernel

/-- The exponent back from the scale byte. -/
theorem unbyte : ∀ E : Fin 256, 10 ≤ E.val → (IntOp.subi (BitVec.setWidth 32 (BitVec.ofNat 8 (E.val - 8))) 127#32).toInt = (E.val : ℤ) - 135 := by
  decide +kernel

end Cert.Scal

end
-- ==== Proof.Math.lean ====
/- The exponent the kernel finds by counting words is the exponent the reference finds by logarithms, and so the codes, the scale
   bytes and the values they stand for agree. -/
module

public import proofs.«01_k».proof.Proof.Words
public import proofs.«01_k».proof.Proof.Tables

@[expose] public section

set_option maxRecDepth 16384

noncomputable section

namespace Cert.Scal

open Idealize.ShloMosaic Cert.Words

/-! ## Constants -/

theorem c448_f32 : Ideal.ofBits .f32 1138753536#32 = ((448 : ℝ) : EReal) := by
  simp [Ideal.ofBits, Ideal.ieee, -EReal.coe_mul]; norm_num
theorem cn448_f32 : Ideal.ofBits .f32 3286237184#32 = ((-448 : ℝ) : EReal) := by
  simp [Ideal.ofBits, Ideal.ieee, -EReal.coe_mul]; norm_num
theorem c448_bf16 : Ideal.ofBits .bf16 17376#16 = ((448 : ℝ) : EReal) := by
  simp [Ideal.ofBits, Ideal.ieee, -EReal.coe_mul]; norm_num
theorem cn448_bf16 : Ideal.ofBits .bf16 50144#16 = ((-448 : ℝ) : EReal) := by
  simp [Ideal.ofBits, Ideal.ieee, -EReal.coe_mul]; norm_num
theorem cmin_f32 : Ideal.ofBits .f32 8388608#32 = (((2 : ℝ) ^ (-126 : ℤ) : ℝ) : EReal) := by
  simp [Ideal.ofBits, Ideal.ieee, -EReal.coe_mul]; norm_num
theorem ctwo_f32 : Ideal.ofBits .f32 1073741824#32 = ((2 : ℝ) : EReal) := by
  simp [Ideal.ofBits, Ideal.ieee, -EReal.coe_mul]; norm_num

/-! ## Counting -/

theorem count_eq (w : Fin 128 → BitVec 32) (a : EReal) (n : ℕ) (hn : n ≤ 128)
    (h : ∀ l : Fin 128, Ideal.ofBits .bf16 (BitVec.setWidth 16 (w l)) ≤ a ↔ l.val < n) : count w a = BitVec.ofNat 32 n := by
  unfold count
  rw [show (fun l => BitVec.setWidth 32 (BitVec.ofBool (decide (Ideal.ofBits .bf16 (BitVec.setWidth 16 (w l)) ≤ a))))
    = fun l : Fin 128 => BitVec.setWidth 32 (BitVec.ofBool (decide (l.val < n))) from funext fun l => by
      congr 2; exact decide_eq_decide.mpr (h l)]
  exact fold_lt ⟨n, by omega⟩

theorem shl_word (k : ℕ) (hk : k < 256) (l : ℕ) :
    BitVec.setWidth 16 (IntOp.addi (IntOp.shli .vector (BitVec.ofNat 32 k) 7#32) (BitVec.ofNat 32 l)) = BitVec.ofNat 16 (128 * k + l) := by
  rw [shl ⟨k, hk⟩]
  unfold IntOp.addi
  rw [← BitVec.ofNat_add, BitVec.setWidth_ofNat_of_le (by decide)]

theorem shl_word0 (k : ℕ) (hk : k < 256) :
    BitVec.setWidth 16 (IntOp.shli .vector (BitVec.ofNat 32 k) 7#32) = BitVec.ofNat 16 (128 * k + 0) := by
  rw [shl ⟨k, hk⟩, BitVec.setWidth_ofNat_of_le (by decide)]
  rfl

theorem binade_eq (a : ℝ) (k : ℕ) (hk : k ≤ 254) (hK : ∀ i ≤ 254, val i 0 ≤ a ↔ i ≤ k) : binade (a : EReal) = BitVec.ofNat 32 k := by
  unfold binade
  rw [count_eq _ _ (min (k + 1) 128) (by omega) fun l => ?_, count_eq _ _ (k + 1 - 128) (by omega) fun l => ?_]
  · exact two_counts ⟨k, by omega⟩
  · rw [show IntOp.addi (BitVec.ofNat 32 l.val) 128#32 = BitVec.ofNat 32 (l.val + 128) from (BitVec.ofNat_add ..).symm, shl_word0 _ (by omega)]
    by_cases h : l.val = 127
    · rw [h, show 128 * (127 + 128) + 0 = 128 * 255 from rfl, ofBits_inf]
      constructor
      · intro h'; exact absurd (top_le_iff.mp h') (EReal.coe_ne_top a)
      · intro; omega
    · rw [ofBits_word (by omega) (by omega), EReal.coe_le_coe_iff, hK _ (by omega)]
      omega
  · rw [shl_word0 l.val (by omega), ofBits_word (by omega) (by omega), EReal.coe_le_coe_iff, hK _ (by omega)]
    omega

theorem fraction_eq (a : ℝ) (k f : ℕ) (hk : k ≤ 254) (hf : f ≤ 127) (hF : ∀ l ≤ 127, val k l ≤ a ↔ l ≤ f) :
    fraction (BitVec.ofNat 32 k) (a : EReal) = BitVec.ofNat 32 f := by
  unfold fraction
  rw [count_eq _ _ (f + 1) (by omega) fun l => ?_]
  · exact one_count ⟨f, by omega⟩
  · rw [shl_word k (by omega), ofBits_word (by omega) (by omega), EReal.coe_le_coe_iff, hF _ (by omega)]
    omega

/-! ## The exponent -/

theorem rexp_small (a : ℝ) (h : a < 7 / 4 * 2 ^ (-118 : ℤ)) : rexp (a : EReal) = 0 := by
  unfold rexp
  rw [c448_f32, cmin_f32]
  have : Ideal.div (a : EReal) ((448 : ℝ) : EReal) = ((a * (448 : ℝ)⁻¹ : ℝ) : EReal) := by
    unfold Ideal.div
    rw [if_neg (by norm_num), EReal.coe_mul, EReal.coe_inv]
  rw [this, if_pos]
  rw [EReal.coe_lt_coe_iff]
  have e : (2 : ℝ) ^ (-118 : ℤ) = 256 * 2 ^ (-126 : ℤ) := by norm_num
  rw [e] at h
  linarith

theorem rexp_large (a : ℝ) (e : ℤ) (he : -126 ≤ e) (h1 : 7 / 4 * 2 ^ (e + 8) ≤ a) (h2 : a < 7 / 4 * 2 ^ (e + 9)) :
    rexp (a : EReal) = ((e + 1 : ℝ) : EReal) := by
  unfold rexp
  rw [c448_f32, cmin_f32, ctwo_f32]
  have hq : Ideal.div (a : EReal) ((448 : ℝ) : EReal) = ((a * (448 : ℝ)⁻¹ : ℝ) : EReal) := by
    unfold Ideal.div
    rw [if_neg (by norm_num), EReal.coe_mul, EReal.coe_inv]
  rw [hq]
  set q : ℝ := a * (448 : ℝ)⁻¹ with hqd
  have q1 : (2 : ℝ) ^ e ≤ q := by
    rw [zpow_add₀ two_ne_zero] at h1
    norm_num at h1
    rw [hqd]; linarith
  have q2 : q < (2 : ℝ) ^ (e + 1) := by
    rw [zpow_add₀ two_ne_zero] at h2 ⊢
    norm_num at h2 ⊢
    rw [hqd]; linarith
  have qp : 0 < q := lt_of_lt_of_le (by positivity) q1
  have hm : (2 : ℝ) ^ (-126 : ℤ) ≤ 2 ^ e := zpow_le_zpow_right₀ (by norm_num) he
  rw [if_neg (by rw [EReal.coe_lt_coe_iff]; linarith)]
  rw [Ideal.log_coe, if_neg (by linarith), Ideal.log_coe, if_neg (by norm_num)]
  have l2 : 0 < Real.log 2 := Real.log_pos (by norm_num)
  have hd : Ideal.div ((Real.log q : ℝ) : EReal) ((Real.log 2 : ℝ) : EReal) = ((Real.log q / Real.log 2 : ℝ) : EReal) := by
    unfold Ideal.div
    rw [if_neg (by exact_mod_cast l2.ne'), div_eq_mul_inv, EReal.coe_mul, EReal.coe_inv]
  rw [hd, Ideal.liftRound_coe]
  have hf : ⌊Real.log q / Real.log 2⌋ = e := by
    rw [Int.floor_eq_iff]
    constructor
    · rw [le_div_iff₀ l2, ← Real.log_zpow]
      exact Real.log_le_log (by positivity) q1
    · rw [div_lt_iff₀ l2]
      have := Real.log_lt_log qp q2
      rw [Real.log_zpow] at this
      push_cast at this
      exact this
  rw [hf]
  norm_cast

/-- The exponent of a group maximum, as the kernel counts it and as the reference computes it. -/
theorem exponent (a : ℝ) (h0 : 0 ≤ a) (h2 : a < 2 ^ (128 : ℤ)) :
    ∃ E : Fin 256, 10 ≤ E.val ∧ pword (a : EReal) = BitVec.ofNat 16 (128 * E.val) ∧ rexp (a : EReal) = (((E.val : ℝ) - 135 : ℝ) : EReal) := by
  obtain ⟨k, hk, hK, f, hf, hF⟩ := exists_word a h0
  obtain ⟨b1, b2⟩ := bounds h2 hk hf hK hF
  have hp : pword (a : EReal) = if 10 ≤ k + (if 96 ≤ f then 1 else 0) then BitVec.ofNat 16 (128 * (k + (if 96 ≤ f then 1 else 0))) else 17280#16 := by
    unfold pword
    rw [binade_eq a k hk hK, fraction_eq a k f hk hf hF]
    unfold word
    rw [shl_word k (by omega)]
    exact pick_eq ⟨k, by omega⟩ ⟨f, by omega⟩
  have hle : k + (if 96 ≤ f then 1 else 0) ≤ 255 := by split <;> omega
  have hk0 : 10 ≤ k + (if 96 ≤ f then 1 else 0) → k ≠ 0 := by split <;> omega
  generalize k + (if 96 ≤ f then 1 else 0) = E at b1 b2 hp hle hk0
  by_cases h : 10 ≤ E
  · refine ⟨⟨E, by omega⟩, h, by rw [hp, if_pos h], ?_⟩
    rw [rexp_large a ((E : ℤ) - 136) (by omega)]
    · congr 1
      push_cast
      ring
    · rw [show (E : ℤ) - 136 + 8 = E - 128 by ring]; exact b2 (hk0 h)
    · rw [show (E : ℤ) - 136 + 9 = E - 127 by ring]; exact b1
  · refine ⟨⟨135, by omega⟩, by norm_num, by rw [hp, if_neg h]; rfl, ?_⟩
    rw [rexp_small a]
    · norm_num
    · refine b1.trans_le ?_
      gcongr
      · norm_num
      · omega

/-! ## The results -/

theorem pow_two (z : ℤ) : Ideal.exp2 (((z : ℝ) : ℝ) : EReal) = (((2 : ℝ) ^ z : ℝ) : EReal) := by
  rw [Ideal.exp2_coe]
  congr 1
  exact Real.rpow_intCast 2 z

/-- The codes agree. -/
theorem code_eq (v : EReal) (E : Fin 256) (hE : 10 ≤ E.val) :
    code v (BitVec.ofNat 16 (128 * E.val)) = rcode v (((E.val : ℝ) - 135 : ℝ) : EReal) := by
  unfold code rcode
  rw [inv_word E hE, ofBits_word (by omega) (by omega), val_zero (by omega), c448_f32, c448_bf16, cn448_f32, cn448_bf16]
  have : (0 : EReal) - (((E.val : ℝ) - 135 : ℝ) : EReal) = (((135 - (E.val : ℤ) : ℤ) : ℝ) : EReal) := by
    rw [← EReal.coe_zero, ← EReal.coe_sub]
    congr 1
    push_cast
    ring
  rw [this, pow_two]
  congr 5
  omega

/-- The scale bytes agree. -/
theorem rbyte_eq (E : Fin 256) (hE : 10 ≤ E.val) : rbyte (((E.val : ℝ) - 135 : ℝ) : EReal) = BitVec.ofNat 8 (E.val - 8) := by
  unfold rbyte
  have h : FloatOps.fptosi (F := Ideal) (φ := .f32) 32 (((E.val : ℝ) - 135 : ℝ) : EReal) = BitVec.ofInt 32 ((E.val : ℤ) - 135) := by
    show Ideal.fptosi 32 _ = _
    unfold Ideal.fptosi
    rw [show ((E.val : ℝ) - 135) = (((E.val : ℤ) - 135 : ℤ) : ℝ) by push_cast; ring]
    congr 1
    show max _ (min _ (if _ then _ else _)) = _
    rw [Int.floor_intCast, Int.ceil_intCast, ite_self]
    have := E.isLt
    norm_num
    omega
  rw [h, rbyte_int E hE]

/-- The values the codes stand for agree. -/
theorem deq_eq (v : EReal) (E : Fin 256) (hE : 10 ≤ E.val) :
    deq v (BitVec.ofNat 16 (128 * E.val)) = rdeq v (((E.val : ℝ) - 135 : ℝ) : EReal) := by
  unfold deq rdeq
  rw [code_eq v E hE, rbyte_eq E hE, scale_word E hE, ofBits_word (by omega) (by omega), val_zero (by omega)]
  unfold rpow
  rw [show FloatOps.sitofp (F := Ideal) .f32 (IntOp.subi (BitVec.setWidth 32 (BitVec.ofNat 8 (E.val - 8))) 127#32)
    = ((((E.val : ℤ) - 135 : ℤ) : ℝ) : EReal) from by rw [← unbyte E hE]; rfl, pow_two]
  rw [show ((E.val - 8 : ℕ) : ℤ) - 127 = (E.val : ℤ) - 135 by omega]

/-- The greatest of a group of numbers of absolute value at most a real bound is a real number from zero to the bound. -/
theorem amax_real (u : Fin 128 → EReal) (b : ℝ) (h : ∀ k, max (u k) (-(u k)) ≤ (b : EReal)) : ∃ a : ℝ, 0 ≤ a ∧ a ≤ b ∧ amax u = (a : EReal) := by
  have hub : amax u ≤ (b : EReal) := by
    unfold amax
    rw [Finset.fold_max_le]
    exact ⟨bot_le, fun k _ => h k⟩
  have hlb : 0 ≤ amax u := by
    unfold amax
    rw [Finset.le_fold_max]
    refine .inr ⟨0, Finset.mem_univ _, ?_⟩
    rcases le_total 0 (u 0) with h' | h'
    · exact h'.trans (le_max_left _ _)
    · exact (EReal.neg_nonneg.mpr h').trans (le_max_right _ _)
  lift amax u to ℝ using ⟨ne_top_of_le_ne_top (EReal.coe_ne_top b) hub, ne_bot_of_le_ne_bot (EReal.coe_ne_bot 0) hlb⟩ with a ha
  exact ⟨a, by exact_mod_cast hlb, by exact_mod_cast hub, rfl⟩

/-- A group of bf16 numbers: one exponent gives the kernel's results and the reference's. -/
theorem group (u : Fin 128 → EReal) (b : ℝ) (hb : b < 2 ^ (128 : ℤ)) (h : ∀ k, max (u k) (-(u k)) ≤ (b : EReal)) :
    ∃ E : Fin 256, 10 ≤ E.val ∧ pword (amax u) = BitVec.ofNat 16 (128 * E.val) ∧ rexp (amax u) = (((E.val : ℝ) - 135 : ℝ) : EReal) := by
  obtain ⟨a, h0, h1, ha⟩ := amax_real u b h
  rw [ha]
  exact exponent a h0 (h1.trans_lt hb)

end Cert.Scal

end
-- ==== Proof.Bound.lean ====
/- The precondition element by element: no element of either argument is larger in magnitude than the greatest finite value of its
   format. -/
module

public import proofs.«01_k».proof.Defs
public import proofs.«01_k».proof.Proof.Gen.Pre_finite
public import proofs.«01_k».proof.Proof.Words
public import Idealize.ShloMosaic.Lib.ReduceAll
public import Idealize.ShloMosaic.Lib.StableHlo.Predicate

@[expose] public section

noncomputable section

namespace Cert.Bound

open Idealize.ShloMosaic Cert.Pre_finite Cert.Words

/-- The greatest finite value of the arguments' format. -/
def big : ℝ := val 254 127

/-- It is below the next power of two. -/
theorem big_lt : big < 2 ^ (128 : ℤ) := by
  unfold big val
  norm_num

/-- Its word in the precondition. -/
theorem ofBits_big : Ideal.ofBits .bf16 0x7F7F#16 = (big : EReal) :=
  ofBits_word (k := 254) (l := 127) (by decide) (by decide)

/-- A comparison that came out true. -/
theorem le_of_cmpf {a b : EReal} (h : FloatOps.cmpf (F := Ideal) (φ := .bf16) .ole a b = 1#1) : a ≤ b := by
  have h' : BitVec.ofBool (decide (a ≤ b)) = 1#1 := h
  by_contra hn
  rw [decide_eq_false hn] at h'
  exact absurd h' (by decide)

/-- Both arguments are bounded where the precondition holds. -/
theorem bounded (x : FVec Ideal S2x2048x1408 .bf16) (w : FVec Ideal S2816x1408 .bf16) (h : fn (F := Ideal) x w = fun _ => 1#1) :
    (∀ i, max (x i) (-(x i)) ≤ (big : EReal)) ∧ (∀ i, max (w i) (-(w i)) ≤ (big : EReal)) := by
  have h0 := congrFun h (fun i : Fin 0 => i.elim0)
  obtain ⟨h1, h2⟩ := IntOp.andi_eq_one.1 h0
  haveI : Subsingleton S_.Idx := ⟨fun a b => funext fun i => i.elim0⟩
  refine ⟨fun i => ?_, fun i => ?_⟩
  · rw [← ofBits_big]; exact le_of_cmpf (Host.reduce_andi_all _ _ _ _ _ h1 i)
  · rw [← ofBits_big]; exact le_of_cmpf (Host.reduce_andi_all _ _ _ _ _ h2 i)

end Cert.Bound

end
-- ==== Proof.Equal.lean ====
/- Where the arguments are bounded, the kernel's codes, scale bytes and product are the reference's. -/
module

public import proofs.«01_k».proof.Proof.KerVal
public import proofs.«01_k».proof.Proof.RefVal
public import proofs.«01_k».proof.Proof.Math
public import proofs.«01_k».proof.Proof.Bound

@[expose] public section

noncomputable section

namespace Cert.Equal

open Idealize.ShloMosaic Cert.Bound
open Cert.KernelIdeal.Run (kcode kdeq kbyte kprod)
open Cert.ReferenceIdeal.Val (rcode rdeq rbyte rprod)

variable {n : ℕ} (v : (⟨2, ![n, 1408]⟩ : Shape).Idx → EReal) (hv : ∀ i, max (v i) (-(v i)) ≤ (big : EReal))

include hv

/-- The exponent of a group, in both programs. -/
theorem group (r : Fin n) (g : Fin 11) : ∃ E : Fin 256, 10 ≤ E.val ∧ Scal.pword (Scal.amax (Scal.grp v r g)) = BitVec.ofNat 16 (128 * E.val)
    ∧ Scal.rexp (Scal.amax (Scal.grp v r g)) = (((E.val : ℝ) - 135 : ℝ) : EReal) :=
  Scal.group _ big big_lt fun _ => hv _

/-- The codes agree. -/
theorem code_eq : kcode v = rcode v := by
  funext i
  obtain ⟨E, hE, h1, h2⟩ := group v hv (i 0) (Scal.gof (i 1))
  show Scal.code _ (Scal.pword (Scal.amax (Scal.grp v (i 0) (Scal.gof (i 1))))) = Scal.rcode _ (Scal.rexp (Scal.amax (Scal.grp v (i 0) (Scal.gof (i 1)))))
  rw [h1, h2, Scal.code_eq _ E hE]

/-- The values of the codes agree. -/
theorem deq_eq : kdeq v = rdeq v := by
  funext i
  obtain ⟨E, hE, h1, h2⟩ := group v hv (i 0) (Scal.gof (i 1))
  show Scal.deq _ (Scal.pword (Scal.amax (Scal.grp v (i 0) (Scal.gof (i 1))))) = Scal.rdeq _ (Scal.rexp (Scal.amax (Scal.grp v (i 0) (Scal.gof (i 1)))))
  rw [h1, h2, Scal.deq_eq _ E hE]

/-- The scale bytes agree. -/
theorem byte_eq : kbyte v = rbyte v := by
  funext i
  obtain ⟨E, hE, h1, h2⟩ := group v hv (i 0) (i 1)
  show Scal.byte (Scal.pword (Scal.amax (Scal.grp v (i 0) (i 1)))) = Scal.rbyte (Scal.rexp (Scal.amax (Scal.grp v (i 0) (i 1))))
  rw [h1, h2, Scal.byte_eq E hE, Scal.rbyte_eq E hE]

omit hv in
/-- The products agree. -/
theorem prod_eq {k : ℕ} (x : (⟨2, ![n, 1408]⟩ : Shape).Idx → EReal) (w : (⟨2, ![k, 1408]⟩ : Shape).Idx → EReal)
    (hx : ∀ i, max (x i) (-(x i)) ≤ (big : EReal)) (hw : ∀ i, max (w i) (-(w i)) ≤ (big : EReal)) : kprod (kdeq x) (kdeq w) = rprod x w := by
  rw [deq_eq x hx, deq_eq w hw]
  rfl

end Cert.Equal

end
-- ==== Proof.Algebraic.lean ====
/- The kernel and the reference on the same arguments, where the precondition holds: the same five results. -/
module

public import proofs.«01_k».proof.Defs
public import proofs.«01_k».proof.Proof.Equal
public import Idealize.ShloMosaic.Lib.Claim

@[expose] public section

noncomputable section

namespace Cert.Algebraic

open Idealize.ShloMosaic Idealize.ShloMosaic.TcCoe Idealize.ShloMosaic.Tactic Idealize.SL.Sem
open Cert.Bound

section Launch

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- What the kernel's launch reads is the argument, reshaped. -/
theorem kx (c : Dev Cert.KernelIdeal.nD) : Cert.KernelIdeal.Run.XA m c
    = shapeCast Cert.KernelIdeal.S4096x1408 (m ((c.tc : Thread Cert.KernelIdeal.nD Cert.KernelIdeal.τ).loc Cert.KernelIdeal.main_arg0))
        Cert.KernelIdeal.Gen.shapeCasts_S2x2048x1408_S4096x1408 := by
  show Cert.KernelIdeal.Gen.V m c Cert.KernelIdeal.main_v0 = _
  entry_read
  rfl

/-- So is what the reference's reads. -/
theorem rx (c : Dev Cert.ReferenceIdeal.nD) : Cert.ReferenceIdeal.Val.XA m' c
    = shapeCast Cert.ReferenceIdeal.S4096x1408 (m' ((c.tc : Thread Cert.ReferenceIdeal.nD Cert.ReferenceIdeal.τ).loc Cert.ReferenceIdeal.main_arg0))
        Cert.ReferenceIdeal.Gen.shapeCasts_S2x2048x1408_S4096x1408 := by
  show Cert.ReferenceIdeal.Gen.V m' c Cert.ReferenceIdeal.main_v0 = _
  entry_read
  rfl

/-- The launches read the same. -/
theorem same (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Val.XA m' c = Cert.KernelIdeal.Run.XA m c := by
  rw [kx, rx, h0]

/-- What the kernel's launch reads is bounded where the argument is. -/
theorem bound (c : Dev Cert.KernelIdeal.nD) (h : Cert.Pre_KernelIdeal_finite m) :
    (∀ i, max (Cert.KernelIdeal.Run.XA m c i) (-(Cert.KernelIdeal.Run.XA m c i)) ≤ (big : EReal))
      ∧ (∀ i, max (Cert.KernelIdeal.Run.WA m c i) (-(Cert.KernelIdeal.Run.WA m c i)) ≤ (big : EReal)) := by
  obtain ⟨hx, hw⟩ := bounded _ _ (h c)
  refine ⟨fun i => ?_, fun i => hw i⟩
  rw [kx]
  exact hx _

variable (hpre : Cert.Pre_KernelIdeal_finite m)
  (hagree : ∀ c : Dev Cert.KernelIdeal.nD,
    m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))

include hpre hagree

/-- The product. -/
theorem result0 (c : Dev Cert.KernelIdeal.nD) : (Cert.ReferenceIdeal.Gen.dats m' 0 c).arrAt 2 Cert.ReferenceIdeal.cfg0.N
    = (Cert.KernelIdeal.Run.dats m 0 c).arrAt 2 Cert.KernelIdeal.cfg0.N := by
  refine (Cert.ReferenceIdeal.Val.final2 m' c).trans (Eq.trans ?_ (Cert.KernelIdeal.Run.final2 m c).symm)
  rw [same m m' c (hagree c).1, show Cert.ReferenceIdeal.Val.WA m' c = Cert.KernelIdeal.Run.WA m c from (hagree c).2]
  exact (Equal.prod_eq _ _ (bound m c hpre).1 (bound m c hpre).2).symm

/-- The codes of the activations. -/
theorem result1 (c : Dev Cert.KernelIdeal.nD) : (Cert.ReferenceIdeal.Gen.dats m' 0 c).arrAt 3 Cert.ReferenceIdeal.cfg0.N
    = (Cert.KernelIdeal.Run.dats m 0 c).arrAt 3 Cert.KernelIdeal.cfg0.N := by
  refine (Cert.ReferenceIdeal.Val.final3 m' c).trans (Eq.trans ?_ (Cert.KernelIdeal.Run.final3 m c).symm)
  rw [same m m' c (hagree c).1]
  exact (Equal.code_eq _ (bound m c hpre).1).symm

/-- The scale bytes of the activations. -/
theorem result2 (c : Dev Cert.KernelIdeal.nD) : (Cert.ReferenceIdeal.Gen.dats m' 0 c).arrAt 4 Cert.ReferenceIdeal.cfg0.N
    = (Cert.KernelIdeal.Run.dats m 0 c).arrAt 4 Cert.KernelIdeal.cfg0.N := by
  refine (Cert.ReferenceIdeal.Val.final4 m' c).trans (Eq.trans ?_ (Cert.KernelIdeal.Run.final4 m c).symm)
  rw [same m m' c (hagree c).1]
  exact (Equal.byte_eq _ (bound m c hpre).1).symm

/-- The codes of the weights. -/
theorem result3 (c : Dev Cert.KernelIdeal.nD) : (Cert.ReferenceIdeal.Gen.dats m' 0 c).arrAt 5 Cert.ReferenceIdeal.cfg0.N
    = (Cert.KernelIdeal.Run.dats m 0 c).arrAt 5 Cert.KernelIdeal.cfg0.N := by
  refine (Cert.ReferenceIdeal.Val.final5 m' c).trans (Eq.trans ?_ (Cert.KernelIdeal.Run.final5 m c).symm)
  rw [show Cert.ReferenceIdeal.Val.WA m' c = Cert.KernelIdeal.Run.WA m c from (hagree c).2]
  exact (Equal.code_eq _ (bound m c hpre).2).symm

/-- The scale bytes of the weights. -/
theorem result4 (c : Dev Cert.KernelIdeal.nD) : (Cert.ReferenceIdeal.Gen.dats m' 0 c).arrAt 6 Cert.ReferenceIdeal.cfg0.N
    = (Cert.KernelIdeal.Run.dats m 0 c).arrAt 6 Cert.KernelIdeal.cfg0.N := by
  refine (Cert.ReferenceIdeal.Val.final6 m' c).trans (Eq.trans ?_ (Cert.KernelIdeal.Run.final6 m c).symm)
  rw [show Cert.ReferenceIdeal.Val.WA m' c = Cert.KernelIdeal.Run.WA m c from (hagree c).2]
  exact (Equal.byte_eq _ (bound m c hpre).2).symm

end Launch

/-- From equal arguments inside the format's finite range, both programs end with equal results and leave the arguments unchanged. -/
theorem algebraic : Cert.algebraic_KernelIdeal_ReferenceIdeal_pre_finite := by
  pair_intro
  · run_from Cert.KernelIdeal.Run.run_main m g
  · run_from Cert.ReferenceIdeal.Gen.run_main m' g'
    · exact result0 m m' hpre hagree c
    · exact result1 m m' hpre hagree c
    · exact result2 m m' hpre hagree c
    · exact result3 m m' hpre hagree c
    · exact result4 m m' hpre hagree c

end Cert.Algebraic

end
-- ==== Proof.RunK.Setup.lean ====
/- The launch's vocabulary of the body's run: the branch condition in closed form, where the two weight outputs are idle, and the
   staging memrefs by name. The weight codes and scales are stored at the first point alone, stay in their buffers through the
   idle points after it and are written back at the last. -/
module

public import proofs.«01_k».proof.Proof.Gen.Kernel.Frame
public import proofs.«01_k».proof.Proof.Gen.Kernel.Skeleton
public import Idealize.ShloMosaic.Lib.Pipeline.TableIdle

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x80 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → cfg0.idle 5 (grid0.coords t) = false := by decide +kernel
/-- At the later points the printed configuration (`Cfg.idle`) calls output 5 idle: nothing is stored into it there. -/
theorem idleAt0_5_B : ∀ t : Fin cfg0.N, ¬cond0_0 (grid0.coords t) → cfg0.idle 5 (grid0.coords t) = true := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cfg0.fresh 5 t.val = false := by
  intro t; rw [fresh0_5_eq t]; revert t; decide +kernel
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x80 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → cfg0.idle 6 (grid0.coords t) = false := by decide +kernel
/-- At the later points the printed configuration (`Cfg.idle`) calls output 6 idle: nothing is stored into it there. -/
theorem idleAt0_6_B : ∀ t : Fin cfg0.N, ¬cond0_0 (grid0.coords t) → cfg0.idle 6 (grid0.coords t) = true := by decide +kernel
/-- At the points of case B, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_B : ∀ t : Fin cfg0.N, ¬cond0_0 (grid0.coords t) → cfg0.fresh 6 t.val = false := by
  intro t; rw [fresh0_6_eq t]; revert t; decide +kernel

/-! ## The kernel body on any staging memrefs: a subtype the run finds -/

/-- One staging buffer of output window 2, through which its contents are stated (`View.read_writes_of_cover`: the
    choice does not matter). -/
abbrev VO0_2 : View sig .tc .vmem S512x2816 .bf16 := (Memref.whole cc0_stg2_0 : Memref sig .tc .vmem S512x2816 .bf16).view
/-- One staging buffer of output window 3, through which its contents are stated (`View.read_writes_of_cover`: the
    choice does not matter). -/
abbrev VO0_3 : View sig .tc .vmem S512x1408 .fp8e4m3 := (Memref.whole cc0_stg3_0 : Memref sig .tc .vmem S512x1408 .fp8e4m3).view
/-- One staging buffer of output window 4, through which its contents are stated (`View.read_writes_of_cover`: the
    choice does not matter). -/
abbrev VO0_4 : View sig .tc .vmem S512x11 .i8 := (Memref.whole cc0_stg4_0 : Memref sig .tc .vmem S512x11 .i8).view
/-- One staging buffer of output window 5, through which its contents are stated (`View.read_writes_of_cover`: the
    choice does not matter). -/
abbrev VO0_5 : View sig .tc .vmem S2816x1408 .fp8e4m3 := (Memref.whole cc0_stg5_0 : Memref sig .tc .vmem S2816x1408 .fp8e4m3).view
/-- One staging buffer of output window 6, through which its contents are stated (`View.read_writes_of_cover`: the
    choice does not matter). -/
abbrev VO0_6 : View sig .tc .vmem S2816x11 .i8 := (Memref.whole cc0_stg6_0 : Memref sig .tc .vmem S2816x11 .i8).view
/-- Each window's current staging memref at point `t`, spelled as the pipeline passes it (`bodyAt0`), and its wholeness. -/
abbrev ms0_0 (t : Fin cfg0.N) : Memref sig .tc .vmem S512x1408 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2816x1408 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2816 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1408 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x11 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2816x1408 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2816x11 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x1408 .bf16 := Memref.whole cc0_scratch0
abbrev scM0_1 : Memref sig .tc .vmem S2816x1408 .bf16 := Memref.whole cc0_scratch1
/-- The scratch `arg9` the kernel carries between points, as a view: what it holds is stated through it. -/
abbrev VS0_1 : View sig .tc .vmem S2816x1408 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Run

end
-- ==== Proof.RunK.RunA.lean ====
/- The body's whole run at the first grid point, where the weight is quantised: the pieces it leaves in each buffer. -/
module

public import proofs.«01_k».proof.Proof.RunK.Setup

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8076000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) :
    Σ' (L2 : List (View.Piece (Elt F) S512x2816 .bf16)), Σ' (L3 : List (View.Piece (Elt F) S512x1408 .fp8e4m3)), Σ' (L4 : List (View.Piece (Elt F) S512x11 .i8)), Σ' (L5 : List (View.Piece (Elt F) S2816x1408 .fp8e4m3)), Σ' (L6 : List (View.Piece (Elt F) S2816x11 .i8)), Σ' (LS1 : List (View.Piece (Elt F) S2816x1408 .bf16)), { LT0 : List (View.Piece (Elt F) S512x1408 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LS1)) -∗ K ⟨⟩))
          ⊢ wp frame (wpE (defs₀ (F := F)) Variants.none c none) E (cc0_quant_linear i arg1 harg1 arg2 harg2 arg3 harg3 arg4 harg4 arg5 harg5 arg6 harg6 arg7 harg7 arg8 harg8 arg9 harg9) K } := by
  refine ⟨?_, ?_, ?_, ?_, ?_, ?_, ?_, fun E K => ?run⟩
  case run =>
    simp only [cc0_quant_linear_eq_skeleton]; unfold cc0_quant_linear_skel
    simp only [k0_part241_eq_skeleton, k0_part237_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part238_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part239_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part240_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexists _; iexact HS0
    iexists _; iexact HS1

end Cert.Kernel.Run

end
-- ==== Proof.RunK.RunB.lean ====
/- The body's whole run at a later grid point: the weight's codes, scales and widened copy are as the first point left them. -/
module

public import proofs.«01_k».proof.Proof.RunK.RunA

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 7: 7 of 8), WITH the
    proof that on whole staging memrefs — the inputs' at their contents, the outputs it reads before covering (5, 6) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) :
    Σ' (L2 : List (View.Piece (Elt F) S512x2816 .bf16)), Σ' (L3 : List (View.Piece (Elt F) S512x1408 .fp8e4m3)), Σ' (L4 : List (View.Piece (Elt F) S512x11 .i8)), Σ' (L5 : List (View.Piece (Elt F) S2816x1408 .fp8e4m3)), Σ' (L6 : List (View.Piece (Elt F) S2816x11 .i8)), Σ' (LS1 : List (View.Piece (Elt F) S2816x1408 .bf16)), { LT0 : List (View.Piece (Elt F) S512x1408 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xo5 ∗ owns (c : Thread nD τ) arg7 fullShare xo6 ∗ (∃ d, owns (c : Thread nD τ) arg8 fullShare d) ∗ owns (c : Thread nD τ) arg9 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xo5 ∗ owns (c : Thread nD τ) arg7 fullShare xo6 ∗ (∃ f, arg8.view.loc (c : Thread nD τ) ↦[arg8.view.set]{fullShare} arg8.view.writes (Elt F) f LT0) ∗ owns (c : Thread nD τ) arg9 fullShare xs1) -∗ K ⟨⟩))
          ⊢ wp frame (wpE (defs₀ (F := F)) Variants.none c none) E (cc0_quant_linear i arg1 harg1 arg2 harg2 arg3 harg3 arg4 harg4 arg5 harg5 arg6 harg6 arg7 harg7 arg8 harg8 arg9 harg9) K } := by
  refine ⟨?_, ?_, ?_, [], [], [], ?_, fun E K => ?run⟩
  case run =>
    simp only [cc0_quant_linear_eq_skeleton]; unfold cc0_quant_linear_skel
    simp only [k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, ⟨%ds0, %fs0, -, HS0⟩, ⟨%fs1, %hfs1, HS1⟩, Hk⟩
    obtain rfl := harg1.eq_unread hf0; obtain rfl := harg2.eq_unread hf1; obtain rfl := harg6.eq_unread hf5; obtain rfl := harg7.eq_unread hf6; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; isplitr; · ipureintro; exact harg9.read_unread _
    iexact HS1

end Cert.Kernel.Run

end
-- ==== Proof.RunK.Frame.lean ====
/- What the run leaves in each buffer after each grid point, the pipeline's proof data, the body obligation, and the run of the
   whole program: each result's array by name, the arguments unchanged. -/
module

public import proofs.«01_k».proof.Proof.RunK.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 2 tile its block (11 stores of `S512x256`, checked by the kernel's evaluation: Lib/Ring.lean `Piece.tiledL`, linear in the pieces, through a loop's `@[irreducible]` trip theorem too), so they cover it. -/
theorem cover0_A_2 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) (y : S512x2816.Idx) :
    ∃ pc ∈ (kernelRun0_A c i arg1 harg1 arg2 harg2 arg3 harg3 arg4 harg4 arg5 harg5 arg6 harg6 arg7 harg7 arg8 harg8 arg9 harg9 hc0 x0 x1).1, y ∈ pc.1.set :=
  View.cover_of_tiledL (kernelRun0_A c i arg1 harg1 arg2 harg2 arg3 harg3 arg4 harg4 arg5 harg5 arg6 harg6 arg7 harg7 arg8 harg8 arg9 harg9 hc0 x0 x1).1 S512x256.size (by sl_kernel_rfl) y

/-- What case A leaves in output 2's staging buffer: its pieces read back over junk. -/
def out0_A_2 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) : Vec F S512x2816 .bf16 :=
  VO0_2.read (Elt F) (VO0_2.writes (Elt F) VO0_2.junk (kernelRun0_A c i arg1 harg1 arg2 harg2 arg3 harg3 arg4 harg4 arg5 harg5 arg6 harg6 arg7 harg7 arg8 harg8 arg9 harg9 hc0 x0 x1).1)

/-- Case A's pieces for output 3 tile its block (11 stores of `S512x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) (y : S512x1408.Idx) :
    ∃ pc ∈ (kernelRun0_A c i arg1 harg1 arg2 harg2 arg3 harg3 arg4 harg4 arg5 harg5 arg6 harg6 arg7 harg7 arg8 harg8 arg9 harg9 hc0 x0 x1).2.1, y ∈ pc.1.set :=
  View.cover_of_tiledL (kernelRun0_A c i arg1 harg1 arg2 harg2 arg3 harg3 arg4 harg4 arg5 harg5 arg6 harg6 arg7 harg7 arg8 harg8 arg9 harg9 hc0 x0 x1).2.1 S512x128.size (by sl_kernel_rfl) y

/-- What case A leaves in output 3's staging buffer: its pieces read back over junk. -/
def out0_A_3 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) : Vec F S512x1408 .fp8e4m3 :=
  VO0_3.read (Elt F) (VO0_3.writes (Elt F) VO0_3.junk (kernelRun0_A c i arg1 harg1 arg2 harg2 arg3 harg3 arg4 harg4 arg5 harg5 arg6 harg6 arg7 harg7 arg8 harg8 arg9 harg9 hc0 x0 x1).2.1)

/-- Case A's pieces for output 4 tile its block (1 store of `S512x11`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) (y : S512x11.Idx) :
    ∃ pc ∈ (kernelRun0_A c i arg1 harg1 arg2 harg2 arg3 harg3 arg4 harg4 arg5 harg5 arg6 harg6 arg7 harg7 arg8 harg8 arg9 harg9 hc0 x0 x1).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1).2.2.1 S512x11.size (by sl_kernel_rfl) y

/-- What case A leaves in output 4's staging buffer: its pieces read back over junk. -/
def out0_A_4 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) : Vec F S512x11 .i8 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 x0 x1).2.2.1)

/-- Case A's pieces for output 5 tile its block (121 stores of `S256x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) (y : S2816x1408.Idx) :
    ∃ pc ∈ (kernelRun0_A c i arg1 harg1 arg2 harg2 arg3 harg3 arg4 harg4 arg5 harg5 arg6 harg6 arg7 harg7 arg8 harg8 arg9 harg9 hc0 x0 x1).2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1).2.2.2.1 S256x128.size (by sl_kernel_rfl) y

/-- What case A leaves in output 5's staging buffer: its pieces read back over junk. -/
def out0_A_5 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) : Vec F S2816x1408 .fp8e4m3 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1).2.2.2.1)

/-- Case A's pieces for output 6 tile its block (11 stores of `S256x11`, checked by the kernel's evaluation: Lib/Ring.lean `Piece.tiledL`, linear in the pieces, through a loop's `@[irreducible]` trip theorem too), so they cover it. -/
theorem cover0_A_6 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) (y : S2816x11.Idx) :
    ∃ pc ∈ (kernelRun0_A c i arg1 harg1 arg2 harg2 arg3 harg3 arg4 harg4 arg5 harg5 arg6 harg6 arg7 harg7 arg8 harg8 arg9 harg9 hc0 x0 x1).2.2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1).2.2.2.2.1 S256x11.size (by sl_kernel_rfl) y

/-- What case A leaves in output 6's staging buffer: its pieces read back over junk. -/
def out0_A_6 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) : Vec F S2816x11 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1).2.2.2.2.1)

/-- Case A's pieces for scratch `arg9`, which the kernel carries between points, cover it: 121 pieces of `S256x128` tiling it (Lib/Ring.lean `Piece.tiledL`). -/
theorem scover0_A_1 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) (y : S2816x1408.Idx) :
    ∃ pc ∈ (kernelRun0_A c i arg1 harg1 arg2 harg2 arg3 harg3 arg4 harg4 arg5 harg5 arg6 harg6 arg7 harg7 arg8 harg8 arg9 harg9 hc0 x0 x1).2.2.2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1).2.2.2.2.2.1 S256x128.size (by sl_kernel_rfl) y

/-- What case A leaves in scratch `arg9`: its pieces read back over junk. -/
def sout0_A_1 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : cond0_0 i)
    (x0 : Vec F S512x1408 .bf16) (x1 : Vec F S2816x1408 .bf16) : Vec F S2816x1408 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 x0 x1).2.2.2.2.2.1)

/-- Case B's pieces for output 2 tile its block (11 stores of `S512x256`, checked by the kernel's evaluation: Lib/Ring.lean `Piece.tiledL`, linear in the pieces, through a loop's `@[irreducible]` trip theorem too), so they cover it. -/
theorem cover0_B_2 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) (y : S512x2816.Idx) :
    ∃ pc ∈ (kernelRun0_B c i arg1 harg1 arg2 harg2 arg3 harg3 arg4 harg4 arg5 harg5 arg6 harg6 arg7 harg7 arg8 harg8 arg9 harg9 hc0 x0 x1 xo5 xo6 xs1).1, y ∈ pc.1.set :=
  View.cover_of_tiledL (kernelRun0_B c i arg1 harg1 arg2 harg2 arg3 harg3 arg4 harg4 arg5 harg5 arg6 harg6 arg7 harg7 arg8 harg8 arg9 harg9 hc0 x0 x1 xo5 xo6 xs1).1 S512x256.size (by sl_kernel_rfl) y

/-- What case B leaves in output 2's staging buffer: its pieces read back over junk. -/
def out0_B_2 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) : Vec F S512x2816 .bf16 :=
  VO0_2.read (Elt F) (VO0_2.writes (Elt F) VO0_2.junk (kernelRun0_B c i arg1 harg1 arg2 harg2 arg3 harg3 arg4 harg4 arg5 harg5 arg6 harg6 arg7 harg7 arg8 harg8 arg9 harg9 hc0 x0 x1 xo5 xo6 xs1).1)

/-- Case B's pieces for output 3 tile its block (11 stores of `S512x128`, checked by the kernel's evaluation: Lib/Ring.lean `Piece.tiledL`, linear in the pieces, through a loop's `@[irreducible]` trip theorem too), so they cover it. -/
theorem cover0_B_3 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) (y : S512x1408.Idx) :
    ∃ pc ∈ (kernelRun0_B c i arg1 harg1 arg2 harg2 arg3 harg3 arg4 harg4 arg5 harg5 arg6 harg6 arg7 harg7 arg8 harg8 arg9 harg9 hc0 x0 x1 xo5 xo6 xs1).2.1, y ∈ pc.1.set :=
  View.cover_of_tiledL (kernelRun0_B c i arg1 harg1 arg2 harg2 arg3 harg3 arg4 harg4 arg5 harg5 arg6 harg6 arg7 harg7 arg8 harg8 arg9 harg9 hc0 x0 x1 xo5 xo6 xs1).2.1 S512x128.size (by sl_kernel_rfl) y

/-- What case B leaves in output 3's staging buffer: its pieces read back over junk. -/
def out0_B_3 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) : Vec F S512x1408 .fp8e4m3 :=
  VO0_3.read (Elt F) (VO0_3.writes (Elt F) VO0_3.junk (kernelRun0_B c i arg1 harg1 arg2 harg2 arg3 harg3 arg4 harg4 arg5 harg5 arg6 harg6 arg7 harg7 arg8 harg8 arg9 harg9 hc0 x0 x1 xo5 xo6 xs1).2.1)

/-- Case B's pieces for output 4 tile its block (1 store of `S512x11`, checked by the kernel's evaluation: Lib/Ring.lean `Piece.tiledL`, linear in the pieces, through a loop's `@[irreducible]` trip theorem too), so they cover it. -/
theorem cover0_B_4 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) (y : S512x11.Idx) :
    ∃ pc ∈ (kernelRun0_B c i arg1 harg1 arg2 harg2 arg3 harg3 arg4 harg4 arg5 harg5 arg6 harg6 arg7 harg7 arg8 harg8 arg9 harg9 hc0 x0 x1 xo5 xo6 xs1).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 xo5 xo6 xs1).2.2.1 S512x11.size (by sl_kernel_rfl) y

/-- What case B leaves in output 4's staging buffer: its pieces read back over junk. -/
def out0_B_4 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) : Vec F S512x11 .i8 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 x0 x1 xo5 xo6 xs1).2.2.1)

/-- Case B stores nothing into output 5, a live window: its staging buffer holds what the point before left. -/
def out0_B_5 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) : Vec F S2816x1408 .fp8e4m3 := xo5

/-- Case B stores nothing into output 6, a live window: its staging buffer holds what the point before left. -/
def out0_B_6 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) : Vec F S2816x11 .i8 := xo6

/-- Case B stores nothing into scratch `arg9`: it holds what the point before left. -/
def sout0_B_1 (c : Dev nD) (i : grid0.Coords) (arg1 : Memref sig .tc .vmem S512x1408 .bf16) (harg1 : arg1.IsWhole) (arg2 : Memref sig .tc .vmem S2816x1408 .bf16) (harg2 : arg2.IsWhole) (arg3 : Memref sig .tc .vmem S512x2816 .bf16) (harg3 : arg3.IsWhole) (arg4 : Memref sig .tc .vmem S512x1408 .fp8e4m3) (harg4 : arg4.IsWhole) (arg5 : Memref sig .tc .vmem S512x11 .i8) (harg5 : arg5.IsWhole) (arg6 : Memref sig .tc .vmem S2816x1408 .fp8e4m3) (harg6 : arg6.IsWhole) (arg7 : Memref sig .tc .vmem S2816x11 .i8) (harg7 : arg7.IsWhole) (arg8 : Memref sig .tc .vmem S512x1408 .bf16) (harg8 : arg8.IsWhole) (arg9 : Memref sig .tc .vmem S2816x1408 .bf16) (harg9 : arg9.IsWhole) (hc0 : ¬cond0_0 i)
    (x0 : Vec F S512x1408 .bf16) (x1 : Vec F S2816x1408 .bf16) (xo5 : Vec F S2816x1408 .fp8e4m3) (xo6 : Vec F S2816x11 .i8) (xs1 : Vec F S2816x1408 .bf16) : Vec F S2816x1408 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x2816 .bf16 × Vec F S512x1408 .fp8e4m3 × Vec F S512x11 .i8 × Vec F S2816x1408 .fp8e4m3 × Vec F S2816x11 .i8 × Vec F S2816x1408 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
    | ⟨6, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]
theorem after0_6 (c : Dev nD) (t : Fin cfg0.N) : (dats m 0 c).after 6 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 8 := lt_of_lt_of_eq t.isLt (show cfg0.N = 8 from N_0)
  rw [after0_5, after0_5]
  by_cases h0 : t.val % 8 = 0
  · rw [liveAt0_5_A t ((hcond0_0 t).mpr h0)] at hi
    exact absurd hi Bool.false_ne_true
  · rw [outsAt0_B m c t h0]; rfl

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 8 := lt_of_lt_of_eq t.isLt (show cfg0.N = 8 from N_0)
  rw [after0_6, after0_6]
  by_cases h0 : t.val % 8 = 0
  · rw [liveAt0_6_A t ((hcond0_0 t).mpr h0)] at hi
    exact absurd hi Bool.false_ne_true
  · rw [outsAt0_B m c t h0]; rfl
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).2.2.2.1 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]

/-- At a later point what output 5's buffer is left at, as the point before left it, is what the run states for this point: where the
    block is not written back by `before0_5_B`, at the last point by `after0_5`. -/
theorem leaves0_5_B (c : Dev nD) (t : Fin cfg0.N) (h0 : ¬t.val % 8 = 0) :
    owns (c : Thread nD τ) (ms0_5 t) fullShare ((outsAt0 m c (t.val - 1) (Nat.lt_of_le_of_lt (Nat.sub_le _ _) t.isLt)).2.2.2.1)
      ⊢ (dats m 0 c).leavesExact 5 t := by
  unfold Dat.leavesExact
  rw [idleAt0_5_B t (fun h => h0 ((hcond0_0 t).mp h))]
  cases hf : (cfg0.win 5).flush t
  · simp only [before0_5_B m c t h0]
    iintro H; iexists (fun _ => default); iexact H
  · simp only [after0_5, outsAt0_B m c t h0, out0_B_5]
    exact Idealize.SL.BI.Entails.refl _
/-- At a point of case B output 6's current staging buffer holds what the point before left: the buffer is not fresh
    there (`notFresh0_6_B`: stored into since the region's entry or the last write-back, carried through the points that
    leave it idle by `hcarry0_6`; Lib/Pipeline/TableIdle.lean `Dat.before_out_traj`). -/
theorem before0_6_B (c : Dev nD) (t : Fin cfg0.N) (h0 : ¬t.val % 8 = 0) (d) :
    (dats m 0 c).before 6 t d = (outsAt0 m c (t.val - 1) (Nat.lt_of_le_of_lt (Nat.sub_le _ _) t.isLt)).2.2.2.2.1 := by
  rw [Dat.before_out_traj _ 6 rfl (fun _ _ => rfl) (hcarry0_6 m c) t.val t rfl d,
    if_neg (by rw [notFresh0_6_B t (fun h => h0 ((hcond0_0 t).mp h))]; exact Bool.false_ne_true)]
  dsimp only [dats]

/-- At a later point what output 6's buffer is left at, as the point before left it, is what the run states for this point: where the
    block is not written back by `before0_6_B`, at the last point by `after0_6`. -/
theorem leaves0_6_B (c : Dev nD) (t : Fin cfg0.N) (h0 : ¬t.val % 8 = 0) :
    owns (c : Thread nD τ) (ms0_6 t) fullShare ((outsAt0 m c (t.val - 1) (Nat.lt_of_le_of_lt (Nat.sub_le _ _) t.isLt)).2.2.2.2.1)
      ⊢ (dats m 0 c).leavesExact 6 t := by
  unfold Dat.leavesExact
  rw [idleAt0_6_B t (fun h => h0 ((hcond0_0 t).mp h))]
  cases hf : (cfg0.win 6).flush t
  · simp only [before0_6_B m c t h0]
    iintro H; iexists (fun _ => default); iexact H
  · simp only [after0_6, outsAt0_B m c t h0, out0_B_6]
    exact Idealize.SL.BI.Entails.refl _

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [show (dats m 0 c).leavesExact 6 t = owns (c : Thread nD τ) (ms0_6 t) fullShare ((dats m 0 c).after 6 t) from by
      unfold Dat.leavesExact; rw [liveAt0_6_A t ((hcond0_0 t).mpr h0)], after0_6]
    by_cases hz : t.val = 0
    · rw [PhiS_castSucc m c t, PhiS_zero m c _ _ hz, PhiA0_eq]
      rw [outsAt0_A m c t h0]
      unfold out0_A_2 out0_A_3 out0_A_4 out0_A_5 out0_A_6 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (iblk m c 0 t) (iblk m c 1 t)).2.2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      iintro ⟨H0, H1, ⟨%e2, H2⟩, ⟨%e3, H3⟩, ⟨%e4, H4⟩, ⟨%e5, H5⟩, ⟨%e6, H6⟩, ⟨%fT0, HS0⟩, ⟨%es1, HS1⟩⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact View.read_writes_of_cover _ _ _ _ _ (scover0_A_1 c _ _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _)
    · exfalso; have hN : t.val < 8 := lt_of_lt_of_eq t.isLt (show cfg0.N = 8 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    by_cases hz : t.val = 0
    · exfalso; have hN : t.val < 8 := lt_of_lt_of_eq t.isLt (show cfg0.N = 8 from N_0); omega
    · rw [PhiS_castSucc m c t, PhiS_pos m c _ _ hz]
      rw [outsAt0_B m c t h0]
      simp only [before0_5_B m c t h0, before0_6_B m c t h0]
      unfold out0_B_2 out0_B_3 out0_B_4 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (iblk m c 0 t) (iblk m c 1 t) _ _ _).2.2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexact H5
      isplitl [H6]; · iexact H6
      isplitl [HS0]; · iexact HS0
      isplitl [HS1]; · iexact HS1
      iintro ⟨H0, H1, ⟨%e2, H2⟩, ⟨%e3, H3⟩, ⟨%e4, H4⟩, H5, H6, ⟨%fT0, HS0⟩, HS1⟩
      isplitl [HS0 HS1 Hg]
      · isplitl [HS0 HS1]
        · isplitl [HS0]
          · iexists _; unfold owns; iexists _; isplitr
            swap; · iexact HS0
            ipureintro; rfl
          iexact HS1
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _)
      isplitl [H5]
      · iapply (leaves0_5_B m c t h0); iexact H5
      iapply (leaves0_6_B m c t h0); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Run

end
-- ==== Proof.lean ====
/- The proof of the certificate's claim: the frames of the kernel, of its ideal program and of the reference, and the equality of the
   ideal programs' results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Run.Frame
public import proofs.«01_k».proof.Proof.Algebraic
public import proofs.«01_k».proof.Proof.RunK.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ, trivial, Cert.Algebraic.algebraic⟩

end Cert.Proof

end
